-- ==== Defs.lean ====
def Pre_Kernel (m : (ℓ : Loc Cert.Kernel.nD Cert.Kernel.τ Cert.Kernel.sig) → Buf (Elt Bits) ℓ) : Prop :=
  True

def Pre_Tokens (m : (ℓ : Loc Cert.Tokens.nD Cert.Tokens.τ Cert.Tokens.sig) → Buf (Elt Bits) ℓ) : Prop :=
  True

def Pre_TokensIdeal (m : (ℓ : Loc Cert.TokensIdeal.nD Cert.TokensIdeal.τ Cert.TokensIdeal.sig) → Buf (Elt Ideal) ℓ) : Prop :=
  True

def Pre_ExpertsIdeal (m : (ℓ : Loc Cert.ExpertsIdeal.nD Cert.ExpertsIdeal.τ Cert.ExpertsIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_picks [hPre_picks : Cert.Pre_picks.Facts] (m : (ℓ : Loc Cert.UpIdeal.nD Cert.UpIdeal.τ Cert.UpIdeal.sig) → Buf (Elt Ideal) ℓ) : Prop :=
  ∀ c : Dev Cert.UpIdeal.nD,
    (Cert.Pre_picks.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_picks [hPre_picks : Cert.Pre_picks.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_picks.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Tokens [hTokens : Cert.Tokens.Facts] : Prop :=
  ∀ (m : (ℓ : Loc Cert.Tokens.nD Cert.Tokens.τ Cert.Tokens.sig) → Buf (Elt Bits) ℓ) (g : Dev Cert.Tokens.nD → PrngReg), Pre_Tokens m →
    θ_run (Cert.Tokens.defs (F := Bits)) (onTc (τ := Cert.Tokens.τ) (Cert.Tokens.main (F := Bits))) ⟨m, fun _ => 0, g⟩ (fun r => (∀ c : Dev Cert.Tokens.nD,
      r.2.mem ((c.tc : Thread Cert.Tokens.nD Cert.Tokens.τ).loc Cert.Tokens.main_arg0) = m ((c.tc : Thread Cert.Tokens.nD Cert.Tokens.τ).loc Cert.Tokens.main_arg0)
      ∧ r.2.mem ((c.tc : Thread Cert.Tokens.nD Cert.Tokens.τ).loc Cert.Tokens.main_arg1) = m ((c.tc : Thread Cert.Tokens.nD Cert.Tokens.τ).loc Cert.Tokens.main_arg1)
      ∧ r.2.mem ((c.tc : Thread Cert.Tokens.nD Cert.Tokens.τ).loc Cert.Tokens.main_arg2) = m ((c.tc : Thread Cert.Tokens.nD Cert.Tokens.τ).loc Cert.Tokens.main_arg2))
      ∧ r.2.sem = fun _ => 0)

def quiescent_TokensIdeal [hTokensIdeal : Cert.TokensIdeal.Facts] : Prop :=
  ∀ (m : (ℓ : Loc Cert.TokensIdeal.nD Cert.TokensIdeal.τ Cert.TokensIdeal.sig) → Buf (Elt Ideal) ℓ) (g : Dev Cert.TokensIdeal.nD → PrngReg), Pre_TokensIdeal m →
    θ_run (Cert.TokensIdeal.defs (F := Ideal)) (onTc (τ := Cert.TokensIdeal.τ) (Cert.TokensIdeal.main (F := Ideal))) ⟨m, fun _ => 0, g⟩ (fun r => (∀ c : Dev Cert.TokensIdeal.nD,
      r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
      ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
      ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_picks [hUpIdeal : Cert.UpIdeal.Facts] [hPre_picks : Cert.Pre_picks.Facts] : Prop :=
  ∀ (m : (ℓ : Loc Cert.UpIdeal.nD Cert.UpIdeal.τ Cert.UpIdeal.sig) → Buf (Elt Ideal) ℓ) (g : Dev Cert.UpIdeal.nD → PrngReg), Pre_UpIdeal_picks m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_picks [hUpRefIdeal : Cert.UpRefIdeal.Facts] [hPre_picks : Cert.Pre_picks.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_picks m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def bitexact_Kernel_Tokens [hKernel : Cert.Kernel.Facts] [hTokens : Cert.Tokens.Facts] : Prop :=
  ∀ (m : (ℓ : Loc Cert.Kernel.nD Cert.Kernel.τ Cert.Kernel.sig) → Buf (Elt Bits) ℓ) (g : Dev Cert.Kernel.nD → PrngReg)
    (m' : (ℓ : Loc Cert.Tokens.nD Cert.Tokens.τ Cert.Tokens.sig) → Buf (Elt Bits) ℓ) (g' : Dev Cert.Tokens.nD → PrngReg), Pre_Kernel m →
    (∀ c : Dev Cert.Kernel.nD,
      m' ((c.tc : Thread Cert.Tokens.nD Cert.Tokens.τ).loc Cert.Tokens.main_arg0) = m ((c.tc : Thread Cert.Kernel.nD Cert.Kernel.τ).loc Cert.Kernel.main_arg0)
      ∧ m' ((c.tc : Thread Cert.Tokens.nD Cert.Tokens.τ).loc Cert.Tokens.main_arg1) = m ((c.tc : Thread Cert.Kernel.nD Cert.Kernel.τ).loc Cert.Kernel.main_arg1)
      ∧ m' ((c.tc : Thread Cert.Tokens.nD Cert.Tokens.τ).loc Cert.Tokens.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Tokens.defs (F := Bits)) (onTc (τ := Cert.Tokens.τ) (Cert.Tokens.main (F := Bits))) ⟨m', fun _ => 0, g'⟩ (fun r => ∀ c : Dev Cert.Tokens.nD,
          r.2.mem ((c.tc : Thread Cert.Tokens.nD Cert.Tokens.τ).loc Cert.Tokens.main_v0) = v0 c
          ∧ r.2.mem ((c.tc : Thread Cert.Tokens.nD Cert.Tokens.τ).loc Cert.Tokens.main_arg0) = m' ((c.tc : Thread Cert.Tokens.nD Cert.Tokens.τ).loc Cert.Tokens.main_arg0)
          ∧ r.2.mem ((c.tc : Thread Cert.Tokens.nD Cert.Tokens.τ).loc Cert.Tokens.main_arg1) = m' ((c.tc : Thread Cert.Tokens.nD Cert.Tokens.τ).loc Cert.Tokens.main_arg1)
          ∧ r.2.mem ((c.tc : Thread Cert.Tokens.nD Cert.Tokens.τ).loc Cert.Tokens.main_arg2) = m' ((c.tc : Thread Cert.Tokens.nD Cert.Tokens.τ).loc Cert.Tokens.main_arg2))

def preserves_Tokens_TokensIdeal : Prop :=
  True

def algebraic_TokensIdeal_ExpertsIdeal [hTokensIdeal : Cert.TokensIdeal.Facts] [hExpertsIdeal : Cert.ExpertsIdeal.Facts] : Prop :=
  ∀ (m : (ℓ : Loc Cert.TokensIdeal.nD Cert.TokensIdeal.τ Cert.TokensIdeal.sig) → Buf (Elt Ideal) ℓ) (g : Dev Cert.TokensIdeal.nD → PrngReg)
    (m' : (ℓ : Loc Cert.ExpertsIdeal.nD Cert.ExpertsIdeal.τ Cert.ExpertsIdeal.sig) → Buf (Elt Ideal) ℓ) (g' : Dev Cert.ExpertsIdeal.nD → PrngReg), Pre_TokensIdeal m →
    (∀ c : Dev Cert.TokensIdeal.nD,
      m' ((c.tc : Thread Cert.ExpertsIdeal.nD Cert.ExpertsIdeal.τ).loc Cert.ExpertsIdeal.main_arg0) = m ((c.tc : Thread Cert.TokensIdeal.nD Cert.TokensIdeal.τ).loc Cert.TokensIdeal.main_arg0)
      ∧ m' ((c.tc : Thread Cert.ExpertsIdeal.nD Cert.ExpertsIdeal.τ).loc Cert.ExpertsIdeal.main_arg1) = m ((c.tc : Thread Cert.TokensIdeal.nD Cert.TokensIdeal.τ).loc Cert.TokensIdeal.main_arg1)
      ∧ m' ((c.tc : Thread Cert.ExpertsIdeal.nD Cert.ExpertsIdeal.τ).loc Cert.ExpertsIdeal.main_arg2) = m ((c.tc : Thread Cert.TokensIdeal.nD Cert.TokensIdeal.τ).loc Cert.TokensIdeal.main_arg2)) →
    ∃ (v0 : (c : Dev Cert.TokensIdeal.nD) → Buf (Elt Ideal) ((c.tc : Thread Cert.TokensIdeal.nD Cert.TokensIdeal.τ).loc Cert.TokensIdeal.main_v0)),
      θ_run (Cert.TokensIdeal.defs (F := Ideal)) (onTc (τ := Cert.TokensIdeal.τ) (Cert.TokensIdeal.main (F := Ideal))) ⟨m, fun _ => 0, g⟩ (fun r => ∀ c : Dev Cert.TokensIdeal.nD,
          r.2.mem ((c.tc : Thread Cert.TokensIdeal.nD Cert.TokensIdeal.τ).loc Cert.TokensIdeal.main_v0) = v0 c
          ∧ r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
          ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
          ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2))
      ∧ θ_run (Cert.ExpertsIdeal.defs (F := Ideal)) (onTc (τ := Cert.ExpertsIdeal.τ) (Cert.ExpertsIdeal.main (F := Ideal))) ⟨m', fun _ => 0, g'⟩ (fun r => ∀ c : Dev Cert.ExpertsIdeal.nD,
          r.2.mem ((c.tc : Thread Cert.ExpertsIdeal.nD Cert.ExpertsIdeal.τ).loc Cert.ExpertsIdeal.main_v17) = v0 c
          ∧ r.2.mem ((c.tc : Thread Cert.ExpertsIdeal.nD Cert.ExpertsIdeal.τ).loc Cert.ExpertsIdeal.main_arg0) = m' ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m' ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m' ((c.tc : Thread Cert.ExpertsIdeal.nD Cert.ExpertsIdeal.τ).loc Cert.ExpertsIdeal.main_arg2))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v18) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)
      ∧ m' ((c.tc : Thread Cert.OutRefIdeal.nD Cert.OutRefIdeal.τ).loc Cert.OutRefIdeal.main_arg6) = m ((c.tc : Thread Cert.OutProjIdeal.nD Cert.OutProjIdeal.τ).loc Cert.OutProjIdeal.main_arg6)
      ∧ m' ((c.tc : Thread Cert.OutRefIdeal.nD Cert.OutRefIdeal.τ).loc Cert.OutRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v7_0)) (v1 : (c : Dev Cert.OutProjIdeal.nD) → Buf (Elt Ideal) ((c.tc : Thread Cert.OutProjIdeal.nD Cert.OutProjIdeal.τ).loc Cert.OutProjIdeal.main_v7_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v7_0) = v0 c
          ∧ r.2.mem ((c.tc : Thread Cert.OutProjIdeal.nD Cert.OutProjIdeal.τ).loc Cert.OutProjIdeal.main_v7_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v33) = v0 c
          ∧ r.2.mem ((c.tc : Thread Cert.OutRefIdeal.nD Cert.OutRefIdeal.τ).loc Cert.OutRefIdeal.main_v48) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v16) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Up_UpIdeal : Prop :=
  True

def algebraic_UpIdeal_UpRefIdeal_pre_picks [hUpIdeal : Cert.UpIdeal.Facts] [hUpRefIdeal : Cert.UpRefIdeal.Facts] [hPre_picks : Cert.Pre_picks.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_picks m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def Claim : Prop :=
  ∃ (hKernel : Cert.Kernel.Facts) (hTokens : Cert.Tokens.Facts) (hTokensIdeal : Cert.TokensIdeal.Facts) (hExpertsIdeal : Cert.ExpertsIdeal.Facts) (hInProj : Cert.InProj.Facts) (hInProjIdeal : Cert.InProjIdeal.Facts) (hInRefIdeal : Cert.InRefIdeal.Facts) (hOutProj : Cert.OutProj.Facts) (hOutProjIdeal : Cert.OutProjIdeal.Facts) (hOutRefIdeal : Cert.OutRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hPre_picks : Cert.Pre_picks.Facts),
    quiescent_Kernel (hKernel := hKernel)
    ∧ quiescent_Tokens (hTokens := hTokens)
    ∧ quiescent_TokensIdeal (hTokensIdeal := hTokensIdeal)
    ∧ quiescent_ExpertsIdeal (hExpertsIdeal := hExpertsIdeal)
    ∧ quiescent_InProj (hInProj := hInProj)
    ∧ quiescent_InProjIdeal (hInProjIdeal := hInProjIdeal)
    ∧ quiescent_InRefIdeal (hInRefIdeal := hInRefIdeal)
    ∧ quiescent_OutProj (hOutProj := hOutProj)
    ∧ quiescent_OutProjIdeal (hOutProjIdeal := hOutProjIdeal)
    ∧ quiescent_OutRefIdeal (hOutRefIdeal := hOutRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpIdeal_pre_picks (hUpIdeal := hUpIdeal) (hPre_picks := hPre_picks)
    ∧ quiescent_UpRefIdeal (hUpRefIdeal := hUpRefIdeal)
    ∧ quiescent_UpRefIdeal_pre_picks (hUpRefIdeal := hUpRefIdeal) (hPre_picks := hPre_picks)
    ∧ bitexact_Kernel_Tokens (hKernel := hKernel) (hTokens := hTokens)
    ∧ preserves_Tokens_TokensIdeal
    ∧ algebraic_TokensIdeal_ExpertsIdeal (hTokensIdeal := hTokensIdeal) (hExpertsIdeal := hExpertsIdeal)
    ∧ preserves_InProj_InProjIdeal
    ∧ algebraic_InProjIdeal_InRefIdeal (hInProjIdeal := hInProjIdeal) (hInRefIdeal := hInRefIdeal)
    ∧ preserves_OutProj_OutProjIdeal
    ∧ algebraic_OutProjIdeal_OutRefIdeal (hOutProjIdeal := hOutProjIdeal) (hOutRefIdeal := hOutRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal_pre_picks (hUpIdeal := hUpIdeal) (hUpRefIdeal := hUpRefIdeal) (hPre_picks := hPre_picks)
-- ==== Pre_picks.lean ====
abbrev S8192x2048 : Shape := ⟨2, ![8192, 2048]⟩
abbrev S1x16384x2048 : Shape := ⟨3, ![1, 16384, 2048]⟩
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x2048 .bf16) (main_arg1 : FVec F S1x16384x2048 .f32) (main_arg2 : IVec S8192x128 32) : IVec S_ 1 :=
  let main_c : IVec S_ 32 := constantI S_ 32 0#32
  let main_v0 : IVec S8192x128 32 := broadcastInDim S8192x128 ![] bcast_S_S8192x128 main_c
  let main_v1 : IVec S8192x128 1 := cmpi .sge main_arg2 main_v0
  let main_c_0 : IVec S_ 32 := constantI S_ 32 16384#32
  let main_v2 : IVec S8192x128 32 := broadcastInDim S8192x128 ![] bcast_S_S8192x128 main_c_0
  let main_v3 : IVec S8192x128 1 := cmpi .slt main_arg2 main_v2
  let main_v4 : IVec S8192x128 1 := andi main_v1 main_v3
  let main_c_1 : IVec S_ 1 := constantI S_ 1 1#1
  let main_v5 : IVec S_ 1 := (fun x v => Host.reduce IntOp.andi x v reducesTo_S8192x128_S_d0_1 h_S_) main_v4 main_c_1
  main_v5
-- ==== Kernel.lean ====
abbrev S8192x128 : Shape := ⟨2, ![8192, 128]⟩
abbrev S8192x16384 : Shape := ⟨2, ![8192, 16384]⟩
abbrev S128x128 : Shape := ⟨2, ![128, 128]⟩
abbrev S128x16384 : Shape := ⟨2, ![128, 16384]⟩
abbrev S128x128x128 : Shape := ⟨3, ![128, 128, 128]⟩
abbrev S8x16x128 : Shape := ⟨3, ![8, 16, 128]⟩
abbrev S1x128 : Shape := ⟨2, ![1, 128]⟩
abbrev S16x128 : Shape := ⟨2, ![16, 128]⟩
abbrev S1x16x128 : Shape := ⟨3, ![1, 16, 128]⟩
abbrev S1x128x128 : Shape := ⟨3, ![1, 128, 128]⟩
abbrev S8x128x128 : Shape := ⟨3, ![8, 128, 128]⟩
abbrev S128x8x128 : Shape := ⟨3, ![128, 8, 128]⟩
abbrev S1x8x128 : Shape := ⟨3, ![1, 8, 128]⟩
abbrev S8x128 : Shape := ⟨2, ![8, 128]⟩

abbrev nBuf : Space → Nat
  | .hbm => 4
  | .vmem => 12
  | .smem => 0
  | _ => 0

abbrev bufTy : (tb : Table) → Fin (tcTables nBuf tb) → BufTy
  | .hbm, ⟨0, _⟩ => ⟨S8192x128, .i32⟩
  | .hbm, ⟨1, _⟩ => ⟨S8192x128, .f32⟩
  | .hbm, ⟨2, _⟩ => ⟨S8192x128, .f32⟩
  | .hbm, ⟨3, _⟩ => ⟨S8192x16384, .bf16⟩
  | .local _ .vmem, ⟨0, _⟩ => ⟨S128x128, .i32⟩
  | .local _ .vmem, ⟨1, _⟩ => ⟨S128x128, .i32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x16384, .bf16⟩
  | .local _ .vmem, ⟨7, _⟩ => ⟨S128x16384, .bf16⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128x128, .f32⟩
  | _, _ => ⟨S8192x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![64], ![false]⟩

def k0_mult1 : BitVec 32 :=
  let c0_i32 : BitVec 32 := 0#32
  let c128_i32 : BitVec 32 := 128#32
  let v34 : BitVec 32 := Scalar.muli c0_i32 c128_i32
  v34
def k0_off1 (c0_i32_15 : BitVec 32) (c0_i32_16 : BitVec 32) : Fin 2 → Nat :=
  let c0_i32 : BitVec 32 := 0#32
  let c128_i32 : BitVec 32 := 128#32
  let v34 : BitVec 32 := Scalar.muli c0_i32 c128_i32
  let v35 : BitVec 32 := v34
  let v36 : BitVec 32 := Scalar.addi v35 c0_i32_15
  let v37 : BitVec 32 := Scalar.addi v36 c0_i32_16
  let v38 : Index := Scalar.indexCast v37
  let c0_17 : Index := 0#32
  ![v38.toNat, 0]
def k0_off2 (c0_i32_15 : BitVec 32) (c0_i32_23 : BitVec 32) : Fin 3 → Nat :=
  let c0_i32 : BitVec 32 := 0#32
  let c128_i32 : BitVec 32 := 128#32
  let v34 : BitVec 32 := Scalar.muli c0_i32 c128_i32
  let v35 : BitVec 32 := v34
  let v36 : BitVec 32 := Scalar.addi v35 c0_i32_15
  let v72 : BitVec 32 := Scalar.addi v36 c0_i32_23
  let v73 : Index := Scalar.indexCast v72
  let c0_24 : Index := 0#32
  let c0_25 : Index := 0#32
  ![v73.toNat, 0, 0]
def k0_off3 (c16_i32_323 : BitVec 32) (c0_i32_325 : BitVec 32) : Fin 3 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1320 : BitVec 32 := Scalar.addi v1319 c0_i32_325
  let v1321 : Index := Scalar.indexCast v1320
  let c0_326 : Index := 0#32
  let c0_327 : Index := 0#32
  ![v1321.toNat, 0, 0]
def k0_off4 (c16_i32_323 : BitVec 32) (c0_i32_328 : BitVec 32) : Fin 3 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1324 : BitVec 32 := Scalar.addi v1319 c0_i32_328
  let c1_i32_329 : BitVec 32 := 1#32
  let v1325 : BitVec 32 := Scalar.addi v1324 c1_i32_329
  let v1326 : Index := Scalar.indexCast v1325
  let c0_330 : Index := 0#32
  let c0_331 : Index := 0#32
  ![v1326.toNat, 0, 0]
def k0_off5 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1413 : Index := Scalar.indexCast v1319
  let c0_381 : Index := 0#32
  ![v1413.toNat, 0]
def k0_off6 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1418 : Index := Scalar.indexCast v1319
  let c128 : Index := 128#32
  ![v1418.toNat, 128]
def k0_off7 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1423 : Index := Scalar.indexCast v1319
  let c256 : Index := 256#32
  ![v1423.toNat, 256]
def k0_off8 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1428 : Index := Scalar.indexCast v1319
  let c384 : Index := 384#32
  ![v1428.toNat, 384]
def k0_off9 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1433 : Index := Scalar.indexCast v1319
  let c512 : Index := 512#32
  ![v1433.toNat, 512]
def k0_off10 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1438 : Index := Scalar.indexCast v1319
  let c640 : Index := 640#32
  ![v1438.toNat, 640]
def k0_off11 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1443 : Index := Scalar.indexCast v1319
  let c768 : Index := 768#32
  ![v1443.toNat, 768]
def k0_off12 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1448 : Index := Scalar.indexCast v1319
  let c896 : Index := 896#32
  ![v1448.toNat, 896]
def k0_off13 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1453 : Index := Scalar.indexCast v1319
  let c1024 : Index := 1024#32
  ![v1453.toNat, 1024]
def k0_off14 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1458 : Index := Scalar.indexCast v1319
  let c1152 : Index := 1152#32
  ![v1458.toNat, 1152]
def k0_off15 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1463 : Index := Scalar.indexCast v1319
  let c1280 : Index := 1280#32
  ![v1463.toNat, 1280]
def k0_off16 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1468 : Index := Scalar.indexCast v1319
  let c1408 : Index := 1408#32
  ![v1468.toNat, 1408]
def k0_off17 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1473 : Index := Scalar.indexCast v1319
  let c1536 : Index := 1536#32
  ![v1473.toNat, 1536]
def k0_off18 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1478 : Index := Scalar.indexCast v1319
  let c1664 : Index := 1664#32
  ![v1478.toNat, 1664]
def k0_off19 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1483 : Index := Scalar.indexCast v1319
  let c1792 : Index := 1792#32
  ![v1483.toNat, 1792]
def k0_off20 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1488 : Index := Scalar.indexCast v1319
  let c1920 : Index := 1920#32
  ![v1488.toNat, 1920]
def k0_off21 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1493 : Index := Scalar.indexCast v1319
  let c2048 : Index := 2048#32
  ![v1493.toNat, 2048]
def k0_off22 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1498 : Index := Scalar.indexCast v1319
  let c2176 : Index := 2176#32
  ![v1498.toNat, 2176]
def k0_off23 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1503 : Index := Scalar.indexCast v1319
  let c2304 : Index := 2304#32
  ![v1503.toNat, 2304]
def k0_off24 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1508 : Index := Scalar.indexCast v1319
  let c2432 : Index := 2432#32
  ![v1508.toNat, 2432]
def k0_off25 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1513 : Index := Scalar.indexCast v1319
  let c2560 : Index := 2560#32
  ![v1513.toNat, 2560]
def k0_off26 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1518 : Index := Scalar.indexCast v1319
  let c2688 : Index := 2688#32
  ![v1518.toNat, 2688]
def k0_off27 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1523 : Index := Scalar.indexCast v1319
  let c2816 : Index := 2816#32
  ![v1523.toNat, 2816]
def k0_off28 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1528 : Index := Scalar.indexCast v1319
  let c2944 : Index := 2944#32
  ![v1528.toNat, 2944]
def k0_off29 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1533 : Index := Scalar.indexCast v1319
  let c3072 : Index := 3072#32
  ![v1533.toNat, 3072]
def k0_off30 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1538 : Index := Scalar.indexCast v1319
  let c3200 : Index := 3200#32
  ![v1538.toNat, 3200]
def k0_off31 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1543 : Index := Scalar.indexCast v1319
  let c3328 : Index := 3328#32
  ![v1543.toNat, 3328]
def k0_off32 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1548 : Index := Scalar.indexCast v1319
  let c3456 : Index := 3456#32
  ![v1548.toNat, 3456]
def k0_off33 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1553 : Index := Scalar.indexCast v1319
  let c3584 : Index := 3584#32
  ![v1553.toNat, 3584]
def k0_off34 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1558 : Index := Scalar.indexCast v1319
  let c3712 : Index := 3712#32
  ![v1558.toNat, 3712]
def k0_off35 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1563 : Index := Scalar.indexCast v1319
  let c3840 : Index := 3840#32
  ![v1563.toNat, 3840]
def k0_off36 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1568 : Index := Scalar.indexCast v1319
  let c3968 : Index := 3968#32
  ![v1568.toNat, 3968]
def k0_off37 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1573 : Index := Scalar.indexCast v1319
  let c4096 : Index := 4096#32
  ![v1573.toNat, 4096]
def k0_off38 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1578 : Index := Scalar.indexCast v1319
  let c4224 : Index := 4224#32
  ![v1578.toNat, 4224]
def k0_off39 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1583 : Index := Scalar.indexCast v1319
  let c4352 : Index := 4352#32
  ![v1583.toNat, 4352]
def k0_off40 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1588 : Index := Scalar.indexCast v1319
  let c4480 : Index := 4480#32
  ![v1588.toNat, 4480]
def k0_off41 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1593 : Index := Scalar.indexCast v1319
  let c4608 : Index := 4608#32
  ![v1593.toNat, 4608]
def k0_off42 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1598 : Index := Scalar.indexCast v1319
  let c4736 : Index := 4736#32
  ![v1598.toNat, 4736]
def k0_off43 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1603 : Index := Scalar.indexCast v1319
  let c4864 : Index := 4864#32
  ![v1603.toNat, 4864]
def k0_off44 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1608 : Index := Scalar.indexCast v1319
  let c4992 : Index := 4992#32
  ![v1608.toNat, 4992]
def k0_off45 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1613 : Index := Scalar.indexCast v1319
  let c5120 : Index := 5120#32
  ![v1613.toNat, 5120]
def k0_off46 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1618 : Index := Scalar.indexCast v1319
  let c5248 : Index := 5248#32
  ![v1618.toNat, 5248]
def k0_off47 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1623 : Index := Scalar.indexCast v1319
  let c5376 : Index := 5376#32
  ![v1623.toNat, 5376]
def k0_off48 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1628 : Index := Scalar.indexCast v1319
  let c5504 : Index := 5504#32
  ![v1628.toNat, 5504]
def k0_off49 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1633 : Index := Scalar.indexCast v1319
  let c5632 : Index := 5632#32
  ![v1633.toNat, 5632]
def k0_off50 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1638 : Index := Scalar.indexCast v1319
  let c5760 : Index := 5760#32
  ![v1638.toNat, 5760]
def k0_off51 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1643 : Index := Scalar.indexCast v1319
  let c5888 : Index := 5888#32
  ![v1643.toNat, 5888]
def k0_off52 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1648 : Index := Scalar.indexCast v1319
  let c6016 : Index := 6016#32
  ![v1648.toNat, 6016]
def k0_off53 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1653 : Index := Scalar.indexCast v1319
  let c6144 : Index := 6144#32
  ![v1653.toNat, 6144]
def k0_off54 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1658 : Index := Scalar.indexCast v1319
  let c6272 : Index := 6272#32
  ![v1658.toNat, 6272]
def k0_off55 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1663 : Index := Scalar.indexCast v1319
  let c6400 : Index := 6400#32
  ![v1663.toNat, 6400]
def k0_off56 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1668 : Index := Scalar.indexCast v1319
  let c6528 : Index := 6528#32
  ![v1668.toNat, 6528]
def k0_off57 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1673 : Index := Scalar.indexCast v1319
  let c6656 : Index := 6656#32
  ![v1673.toNat, 6656]
def k0_off58 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1678 : Index := Scalar.indexCast v1319
  let c6784 : Index := 6784#32
  ![v1678.toNat, 6784]
def k0_off59 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1683 : Index := Scalar.indexCast v1319
  let c6912 : Index := 6912#32
  ![v1683.toNat, 6912]
def k0_off60 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1688 : Index := Scalar.indexCast v1319
  let c7040 : Index := 7040#32
  ![v1688.toNat, 7040]
def k0_off61 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1693 : Index := Scalar.indexCast v1319
  let c7168 : Index := 7168#32
  ![v1693.toNat, 7168]
def k0_off62 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1698 : Index := Scalar.indexCast v1319
  let c7296 : Index := 7296#32
  ![v1698.toNat, 7296]
def k0_off63 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1703 : Index := Scalar.indexCast v1319
  let c7424 : Index := 7424#32
  ![v1703.toNat, 7424]
def k0_off64 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1708 : Index := Scalar.indexCast v1319
  let c7552 : Index := 7552#32
  ![v1708.toNat, 7552]
def k0_off65 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1713 : Index := Scalar.indexCast v1319
  let c7680 : Index := 7680#32
  ![v1713.toNat, 7680]
def k0_off66 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1718 : Index := Scalar.indexCast v1319
  let c7808 : Index := 7808#32
  ![v1718.toNat, 7808]
def k0_off67 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1723 : Index := Scalar.indexCast v1319
  let c7936 : Index := 7936#32
  ![v1723.toNat, 7936]
def k0_off68 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1728 : Index := Scalar.indexCast v1319
  let c8064 : Index := 8064#32
  ![v1728.toNat, 8064]
def k0_off69 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1733 : Index := Scalar.indexCast v1319
  let c8192 : Index := 8192#32
  ![v1733.toNat, 8192]
def k0_off70 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1738 : Index := Scalar.indexCast v1319
  let c8320 : Index := 8320#32
  ![v1738.toNat, 8320]
def k0_off71 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1743 : Index := Scalar.indexCast v1319
  let c8448 : Index := 8448#32
  ![v1743.toNat, 8448]
def k0_off72 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1748 : Index := Scalar.indexCast v1319
  let c8576 : Index := 8576#32
  ![v1748.toNat, 8576]
def k0_off73 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1753 : Index := Scalar.indexCast v1319
  let c8704 : Index := 8704#32
  ![v1753.toNat, 8704]
def k0_off74 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1758 : Index := Scalar.indexCast v1319
  let c8832 : Index := 8832#32
  ![v1758.toNat, 8832]
def k0_off75 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1763 : Index := Scalar.indexCast v1319
  let c8960 : Index := 8960#32
  ![v1763.toNat, 8960]
def k0_off76 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1768 : Index := Scalar.indexCast v1319
  let c9088 : Index := 9088#32
  ![v1768.toNat, 9088]
def k0_off77 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1773 : Index := Scalar.indexCast v1319
  let c9216 : Index := 9216#32
  ![v1773.toNat, 9216]
def k0_off78 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1778 : Index := Scalar.indexCast v1319
  let c9344 : Index := 9344#32
  ![v1778.toNat, 9344]
def k0_off79 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1783 : Index := Scalar.indexCast v1319
  let c9472 : Index := 9472#32
  ![v1783.toNat, 9472]
def k0_off80 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1788 : Index := Scalar.indexCast v1319
  let c9600 : Index := 9600#32
  ![v1788.toNat, 9600]
def k0_off81 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1793 : Index := Scalar.indexCast v1319
  let c9728 : Index := 9728#32
  ![v1793.toNat, 9728]
def k0_off82 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1798 : Index := Scalar.indexCast v1319
  let c9856 : Index := 9856#32
  ![v1798.toNat, 9856]
def k0_off83 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1803 : Index := Scalar.indexCast v1319
  let c9984 : Index := 9984#32
  ![v1803.toNat, 9984]
def k0_off84 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1808 : Index := Scalar.indexCast v1319
  let c10112 : Index := 10112#32
  ![v1808.toNat, 10112]
def k0_off85 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1813 : Index := Scalar.indexCast v1319
  let c10240 : Index := 10240#32
  ![v1813.toNat, 10240]
def k0_off86 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1818 : Index := Scalar.indexCast v1319
  let c10368 : Index := 10368#32
  ![v1818.toNat, 10368]
def k0_off87 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1823 : Index := Scalar.indexCast v1319
  let c10496 : Index := 10496#32
  ![v1823.toNat, 10496]
def k0_off88 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1828 : Index := Scalar.indexCast v1319
  let c10624 : Index := 10624#32
  ![v1828.toNat, 10624]
def k0_off89 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1833 : Index := Scalar.indexCast v1319
  let c10752 : Index := 10752#32
  ![v1833.toNat, 10752]
def k0_off90 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1838 : Index := Scalar.indexCast v1319
  let c10880 : Index := 10880#32
  ![v1838.toNat, 10880]
def k0_off91 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1843 : Index := Scalar.indexCast v1319
  let c11008 : Index := 11008#32
  ![v1843.toNat, 11008]
def k0_off92 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1848 : Index := Scalar.indexCast v1319
  let c11136 : Index := 11136#32
  ![v1848.toNat, 11136]
def k0_off93 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1853 : Index := Scalar.indexCast v1319
  let c11264 : Index := 11264#32
  ![v1853.toNat, 11264]
def k0_off94 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1858 : Index := Scalar.indexCast v1319
  let c11392 : Index := 11392#32
  ![v1858.toNat, 11392]
def k0_off95 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1863 : Index := Scalar.indexCast v1319
  let c11520 : Index := 11520#32
  ![v1863.toNat, 11520]
def k0_off96 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1868 : Index := Scalar.indexCast v1319
  let c11648 : Index := 11648#32
  ![v1868.toNat, 11648]
def k0_off97 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1873 : Index := Scalar.indexCast v1319
  let c11776 : Index := 11776#32
  ![v1873.toNat, 11776]
def k0_off98 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1878 : Index := Scalar.indexCast v1319
  let c11904 : Index := 11904#32
  ![v1878.toNat, 11904]
def k0_off99 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1883 : Index := Scalar.indexCast v1319
  let c12032 : Index := 12032#32
  ![v1883.toNat, 12032]
def k0_off100 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1888 : Index := Scalar.indexCast v1319
  let c12160 : Index := 12160#32
  ![v1888.toNat, 12160]
def k0_off101 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1893 : Index := Scalar.indexCast v1319
  let c12288 : Index := 12288#32
  ![v1893.toNat, 12288]
def k0_off102 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1898 : Index := Scalar.indexCast v1319
  let c12416 : Index := 12416#32
  ![v1898.toNat, 12416]
def k0_off103 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1903 : Index := Scalar.indexCast v1319
  let c12544 : Index := 12544#32
  ![v1903.toNat, 12544]
def k0_off104 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1908 : Index := Scalar.indexCast v1319
  let c12672 : Index := 12672#32
  ![v1908.toNat, 12672]
def k0_off105 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1913 : Index := Scalar.indexCast v1319
  let c12800 : Index := 12800#32
  ![v1913.toNat, 12800]
def k0_off106 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1918 : Index := Scalar.indexCast v1319
  let c12928 : Index := 12928#32
  ![v1918.toNat, 12928]
def k0_off107 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1923 : Index := Scalar.indexCast v1319
  let c13056 : Index := 13056#32
  ![v1923.toNat, 13056]
def k0_off108 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1928 : Index := Scalar.indexCast v1319
  let c13184 : Index := 13184#32
  ![v1928.toNat, 13184]
def k0_off109 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1933 : Index := Scalar.indexCast v1319
  let c13312 : Index := 13312#32
  ![v1933.toNat, 13312]
def k0_off110 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1938 : Index := Scalar.indexCast v1319
  let c13440 : Index := 13440#32
  ![v1938.toNat, 13440]
def k0_off111 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1943 : Index := Scalar.indexCast v1319
  let c13568 : Index := 13568#32
  ![v1943.toNat, 13568]
def k0_off112 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1948 : Index := Scalar.indexCast v1319
  let c13696 : Index := 13696#32
  ![v1948.toNat, 13696]
def k0_off113 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1953 : Index := Scalar.indexCast v1319
  let c13824 : Index := 13824#32
  ![v1953.toNat, 13824]
def k0_off114 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1958 : Index := Scalar.indexCast v1319
  let c13952 : Index := 13952#32
  ![v1958.toNat, 13952]
def k0_off115 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1963 : Index := Scalar.indexCast v1319
  let c14080 : Index := 14080#32
  ![v1963.toNat, 14080]
def k0_off116 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1968 : Index := Scalar.indexCast v1319
  let c14208 : Index := 14208#32
  ![v1968.toNat, 14208]
def k0_off117 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1973 : Index := Scalar.indexCast v1319
  let c14336 : Index := 14336#32
  ![v1973.toNat, 14336]
def k0_off118 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1978 : Index := Scalar.indexCast v1319
  let c14464 : Index := 14464#32
  ![v1978.toNat, 14464]
def k0_off119 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1983 : Index := Scalar.indexCast v1319
  let c14592 : Index := 14592#32
  ![v1983.toNat, 14592]
def k0_off120 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1988 : Index := Scalar.indexCast v1319
  let c14720 : Index := 14720#32
  ![v1988.toNat, 14720]
def k0_off121 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1993 : Index := Scalar.indexCast v1319
  let c14848 : Index := 14848#32
  ![v1993.toNat, 14848]
def k0_off122 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v1998 : Index := Scalar.indexCast v1319
  let c14976 : Index := 14976#32
  ![v1998.toNat, 14976]
def k0_off123 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v2003 : Index := Scalar.indexCast v1319
  let c15104 : Index := 15104#32
  ![v2003.toNat, 15104]
def k0_off124 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v2008 : Index := Scalar.indexCast v1319
  let c15232 : Index := 15232#32
  ![v2008.toNat, 15232]
def k0_off125 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v2013 : Index := Scalar.indexCast v1319
  let c15360 : Index := 15360#32
  ![v2013.toNat, 15360]
def k0_off126 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v2018 : Index := Scalar.indexCast v1319
  let c15488 : Index := 15488#32
  ![v2018.toNat, 15488]
def k0_off127 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v2023 : Index := Scalar.indexCast v1319
  let c15616 : Index := 15616#32
  ![v2023.toNat, 15616]
def k0_off128 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v2028 : Index := Scalar.indexCast v1319
  let c15744 : Index := 15744#32
  ![v2028.toNat, 15744]
def k0_off129 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v2033 : Index := Scalar.indexCast v1319
  let c15872 : Index := 15872#32
  ![v2033.toNat, 15872]
def k0_off130 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v2038 : Index := Scalar.indexCast v1319
  let c16000 : Index := 16000#32
  ![v2038.toNat, 16000]
def k0_off131 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v2043 : Index := Scalar.indexCast v1319
  let c16128 : Index := 16128#32
  ![v2043.toNat, 16128]
def k0_off132 (c16_i32_323 : BitVec 32) : Fin 2 → Nat :=
  let c0_i32 : BitVec 32 := 0#32
  let c128_i32 : BitVec 32 := 128#32
  let v34 : BitVec 32 := Scalar.muli c0_i32 c128_i32
  let v35 : BitVec 32 := v34
  let v1318 : BitVec 32 := Scalar.addi v35 c16_i32_323
  let c16_i32_324 : BitVec 32 := 16#32
  let v1319 : BitVec 32 := Scalar.subi v1318 c16_i32_324
  let v2048 : Index := Scalar.indexCast v1319
  let c16256 : Index := 16256#32
  ![v2048.toNat, 16256]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Tokens.lean ====
abbrev S8192x128 : Shape := ⟨2, ![8192, 128]⟩
abbrev S8192x16384 : Shape := ⟨2, ![8192, 16384]⟩
abbrev S1x128 : Shape := ⟨2, ![1, 128]⟩
abbrev S128x128 : Shape := ⟨2, ![128, 128]⟩
abbrev S1x16384 : Shape := ⟨2, ![1, 16384]⟩
abbrev S2x16384 : Shape := ⟨2, ![2, 16384]⟩

abbrev nBuf : Space → Nat
  | .hbm => 4
  | .vmem => 4
  | .smem => 0
  | _ => 0

abbrev bufTy : (tb : Table) → Fin (tcTables nBuf tb) → BufTy
  | .hbm, ⟨0, _⟩ => ⟨S8192x128, .i32⟩
  | .hbm, ⟨1, _⟩ => ⟨S8192x128, .f32⟩
  | .hbm, ⟨2, _⟩ => ⟨S8192x128, .f32⟩
  | .hbm, ⟨3, _⟩ => ⟨S8192x16384, .bf16⟩
  | .local _ .vmem, ⟨0, _⟩ => ⟨S8192x128, .i32⟩
  | .local _ .vmem, ⟨1, _⟩ => ⟨S8192x128, .f32⟩
  | .local _ .vmem, ⟨2, _⟩ => ⟨S8192x128, .f32⟩
  | .local _ .vmem, ⟨3, _⟩ => ⟨S8192x16384, .bf16⟩
  | _, _ => ⟨S8192x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c4096_i32 : BitVec 32 := 4096#32
  let v0 : BitVec 32 := Scalar.addi c0_i32 c4096_i32
  let c1_i32 : BitVec 32 := 1#32
  ⟨c0_i32, v0, c1_i32⟩
def k0_mult1 (k0_t1 : Fin k0_t1_loop.trips) : BitVec 32 :=
  let c2_i32 : BitVec 32 := 2#32
  let c0_i32 : BitVec 32 := 0#32
  let c1_i32 : BitVec 32 := 1#32
  let arg4 : BitVec 32 := Scf.iv c0_i32 c1_i32 k0_t1
  let v1 : BitVec 32 := Scalar.muli c2_i32 arg4
  v1
def k0_off1 (k0_t1 : Fin k0_t1_loop.trips) : Fin 2 → Nat :=
  let c2_i32 : BitVec 32 := 2#32
  let c0_i32 : BitVec 32 := 0#32
  let c1_i32 : BitVec 32 := 1#32
  let arg4 : BitVec 32 := Scf.iv c0_i32 c1_i32 k0_t1
  let v1 : BitVec 32 := Scalar.muli c2_i32 arg4
  let v2 : BitVec 32 := v1
  let v3 : Index := Scalar.indexCast v2
  let c0 : Index := 0#32
  ![v3.toNat, 0]
def k0_off2 (k0_t1 : Fin k0_t1_loop.trips) : Fin 2 → Nat :=
  let c2_i32 : BitVec 32 := 2#32
  let c0_i32 : BitVec 32 := 0#32
  let c1_i32 : BitVec 32 := 1#32
  let arg4 : BitVec 32 := Scf.iv c0_i32 c1_i32 k0_t1
  let v1 : BitVec 32 := Scalar.muli c2_i32 arg4
  let v2 : BitVec 32 := v1
  let c1_i32_9 : BitVec 32 := 1#32
  let v43 : BitVec 32 := Scalar.addi v2 c1_i32_9
  let v44 : Index := Scalar.indexCast v43
  let c0_10 : Index := 0#32
  ![v44.toNat, 0]
def k0_off3 (k0_t1 : Fin k0_t1_loop.trips) : Fin 2 → Nat :=
  let c2_i32 : BitVec 32 := 2#32
  let c0_i32 : BitVec 32 := 0#32
  let c1_i32 : BitVec 32 := 1#32
  let arg4 : BitVec 32 := Scf.iv c0_i32 c1_i32 k0_t1
  let v1 : BitVec 32 := Scalar.muli c2_i32 arg4
  let v2 : BitVec 32 := v1
  let v86 : Index := Scalar.indexCast v2
  let c0_22 : Index := 0#32
  ![v86.toNat, 0]
abbrev stage0_0 : Fin 1 → Memref sig .tc .vmem S8192x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ExpertsIdeal.lean ====
abbrev S8192x128 : Shape := ⟨2, ![8192, 128]⟩
abbrev S_ : Shape := ⟨0, ![]⟩
abbrev S8192x128x1 : Shape := ⟨3, ![8192, 128, 1]⟩
abbrev S16384 : Shape := ⟨1, ![16384]⟩
abbrev S1x1x16384 : Shape := ⟨3, ![1, 1, 16384]⟩
abbrev S8192x128x16384 : Shape := ⟨3, ![8192, 128, 16384]⟩
abbrev S8192x16384 : Shape := ⟨2, ![8192, 16384]⟩

abbrev nBuf : Space → Nat
  | .hbm => 28
  | .vmem => 0
  | .smem => 0
  | _ => 0

abbrev bufTy : (tb : Table) → Fin (tcTables nBuf tb) → BufTy
  | .hbm, ⟨0, _⟩ => ⟨S8192x128, .i32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128x1, .i32⟩
  | .hbm, ⟨14, _⟩ => ⟨S16384, .i32⟩
  | .hbm, ⟨15, _⟩ => ⟨S1x1x16384, .i32⟩
  | .hbm, ⟨16, _⟩ => ⟨S8192x128x16384, .i32⟩
  | .hbm, ⟨17, _⟩ => ⟨S8192x128x16384, .i32⟩
  | .hbm, ⟨18, _⟩ => ⟨S8192x128x16384, .i1⟩
  | .hbm, ⟨19, _⟩ => ⟨S8192x128x1, .f32⟩
  | .hbm, ⟨20, _⟩ => ⟨S_, .f32⟩
  | .hbm, ⟨21, _⟩ => ⟨S_, .f32⟩
  | .hbm, ⟨22, _⟩ => ⟨S8192x128x16384, .f32⟩
  | .hbm, ⟨23, _⟩ => ⟨S8192x128x16384, .f32⟩
  | .hbm, ⟨24, _⟩ => ⟨S8192x128x16384, .f32⟩
  | .hbm, ⟨25, _⟩ => ⟨S_, .f32⟩
  | .hbm, ⟨26, _⟩ => ⟨S8192x16384, .f32⟩
  | .hbm, ⟨27, _⟩ => ⟨S8192x16384, .bf16⟩
  | _, _ => ⟨S8192x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== InProj.lean ====
abbrev S2x4096x2048 : Shape := ⟨3, ![2, 4096, 2048]⟩
abbrev S1x2048 : Shape := ⟨2, ![1, 2048]⟩
abbrev S1x2048x10240 : Shape := ⟨3, ![1, 2048, 10240]⟩
abbrev S8192x2048 : Shape := ⟨2, ![8192, 2048]⟩
abbrev S2048x10240 : Shape := ⟨2, ![2048, 10240]⟩
abbrev S80x8192x128 : Shape := ⟨3, ![80, 8192, 128]⟩
abbrev S1024x2048 : Shape := ⟨2, ![1024, 2048]⟩
abbrev S2048x2048 : Shape := ⟨2, ![2048, 2048]⟩
abbrev S16x1024x128 : Shape := ⟨3, ![16, 1024, 128]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩

abbrev nBuf : Space → Nat
  | .hbm => 7
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x10240, .f32⟩
  | .hbm, ⟨3, _⟩ => ⟨S8192x2048, .f32⟩
  | .hbm, ⟨4, _⟩ => ⟨S2048x10240, .f32⟩
  | .hbm, ⟨5, _⟩ => ⟨S2048x10240, .bf16⟩
  | .hbm, ⟨6, _⟩ => ⟨S80x8192x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S16x1024x128, .bf16⟩
  | .local _ .vmem, ⟨6, _⟩ => ⟨S16x1024x128, .bf16⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InRefIdeal.lean ====
abbrev S2x4096x2048 : Shape := ⟨3, ![2, 4096, 2048]⟩
abbrev S1x2048 : Shape := ⟨2, ![1, 2048]⟩
abbrev S1x2048x10240 : Shape := ⟨3, ![1, 2048, 10240]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x10240 : Shape := ⟨2, ![2048, 10240]⟩
abbrev S2x4096x10240 : Shape := ⟨3, ![2, 4096, 10240]⟩
abbrev S8192x80x128 : Shape := ⟨3, ![8192, 80, 128]⟩
abbrev S80x8192x128 : Shape := ⟨3, ![80, 8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x10240, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x10240, .f32⟩
  | .hbm, ⟨21, _⟩ => ⟨S2x4096x10240, .f32⟩
  | .hbm, ⟨22, _⟩ => ⟨S8192x80x128, .f32⟩
  | .hbm, ⟨23, _⟩ => ⟨S80x8192x128, .f32⟩
  | .hbm, ⟨24, _⟩ => ⟨S80x8192x128, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== OutProj.lean ====
abbrev S8x8192x128 : Shape := ⟨3, ![8, 8192, 128]⟩
abbrev S4x8192x128 : Shape := ⟨3, ![4, 8192, 128]⟩
abbrev S80x8192x128 : Shape := ⟨3, ![80, 8192, 128]⟩
abbrev S2x4096x2048 : Shape := ⟨3, ![2, 4096, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S8192x2048 : Shape := ⟨2, ![8192, 2048]⟩
abbrev S1024x2048 : Shape := ⟨2, ![1024, 2048]⟩
abbrev S512x2048 : Shape := ⟨2, ![512, 2048]⟩
abbrev S2048x2048 : Shape := ⟨2, ![2048, 2048]⟩
abbrev S8x512x128 : Shape := ⟨3, ![8, 512, 128]⟩
abbrev S4x512x128 : Shape := ⟨3, ![4, 512, 128]⟩
abbrev S16x512x128 : Shape := ⟨3, ![16, 512, 128]⟩
abbrev S1x512x128 : Shape := ⟨3, ![1, 512, 128]⟩
abbrev S512x128 : Shape := ⟨2, ![512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 18
  | .smem => 0
  | _ => 0

abbrev bufTy : (tb : Table) → Fin (tcTables nBuf tb) → BufTy
  | .hbm, ⟨0, _⟩ => ⟨S8x8192x128, .bf16⟩
  | .hbm, ⟨1, _⟩ => ⟨S4x8192x128, .bf16⟩
  | .hbm, ⟨2, _⟩ => ⟨S80x8192x128, .bf16⟩
  | .hbm, ⟨3, _⟩ => ⟨S2x4096x2048, .f32⟩
  | .hbm, ⟨4, _⟩ => ⟨S1x1024x2048, .f32⟩
  | .hbm, ⟨5, _⟩ => ⟨S1x512x2048, .f32⟩
  | .hbm, ⟨6, _⟩ => ⟨S1x2048x2048, .f32⟩
  | .hbm, ⟨7, _⟩ => ⟨S1x2048, .f32⟩
  | .hbm, ⟨8, _⟩ => ⟨S8192x2048, .f32⟩
  | .hbm, ⟨9, _⟩ => ⟨S1024x2048, .f32⟩
  | .hbm, ⟨10, _⟩ => ⟨S1024x2048, .bf16⟩
  | .hbm, ⟨11, _⟩ => ⟨S512x2048, .f32⟩
  | .hbm, ⟨12, _⟩ => ⟨S512x2048, .bf16⟩
  | .hbm, ⟨13, _⟩ => ⟨S2048x2048, .f32⟩
  | .hbm, ⟨14, _⟩ => ⟨S2048x2048, .bf16⟩
  | .hbm, ⟨15, _⟩ => ⟨S8192x2048, .f32⟩
  | .hbm, ⟨16, _⟩ => ⟨S8192x2048, .bf16⟩
  | .local _ .vmem, ⟨0, _⟩ => ⟨S8x512x128, .bf16⟩
  | .local _ .vmem, ⟨1, _⟩ => ⟨S8x512x128, .bf16⟩
  | .local _ .vmem, ⟨2, _⟩ => ⟨S4x512x128, .bf16⟩
  | .local _ .vmem, ⟨3, _⟩ => ⟨S4x512x128, .bf16⟩
  | .local _ .vmem, ⟨4, _⟩ => ⟨S16x512x128, .bf16⟩
  | .local _ .vmem, ⟨5, _⟩ => ⟨S16x512x128, .bf16⟩
  | .local _ .vmem, ⟨6, _⟩ => ⟨S16x512x128, .bf16⟩
  | .local _ .vmem, ⟨7, _⟩ => ⟨S16x512x128, .bf16⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S512x2048, .bf16⟩
  | .local _ .vmem, ⟨12, _⟩ => ⟨S2048x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutRefIdeal.lean ====
abbrev S8x8192x128 : Shape := ⟨3, ![8, 8192, 128]⟩
abbrev S4x8192x128 : Shape := ⟨3, ![4, 8192, 128]⟩
abbrev S80x8192x128 : Shape := ⟨3, ![80, 8192, 128]⟩
abbrev S2x4096x2048 : Shape := ⟨3, ![2, 4096, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S8192x80x128 : Shape := ⟨3, ![8192, 80, 128]⟩
abbrev S8192x10240 : Shape := ⟨2, ![8192, 10240]⟩
abbrev S8192x2048 : Shape := ⟨2, ![8192, 2048]⟩
abbrev S_ : Shape := ⟨0, ![]⟩
abbrev S8192x8x128 : Shape := ⟨3, ![8192, 8, 128]⟩
abbrev S8192x1024 : Shape := ⟨2, ![8192, 1024]⟩
abbrev S1024x2048 : Shape := ⟨2, ![1024, 2048]⟩
abbrev S8192x4x128 : Shape := ⟨3, ![8192, 4, 128]⟩
abbrev S8192x512 : Shape := ⟨2, ![8192, 512]⟩
abbrev S512x2048 : Shape := ⟨2, ![512, 2048]⟩
abbrev S2048x2048 : Shape := ⟨2, ![2048, 2048]⟩
abbrev S2048 : Shape := ⟨1, ![2048]⟩
abbrev S8192 : Shape := ⟨1, ![8192]⟩
abbrev S8192x1 : Shape := ⟨2, ![8192, 1]⟩

abbrev nBuf : Space → Nat
  | .hbm => 64
  | .vmem => 0
  | .smem => 0
  | _ => 0

abbrev bufTy : (tb : Table) → Fin (tcTables nBuf tb) → BufTy
  | .hbm, ⟨0, _⟩ => ⟨S8x8192x128, .bf16⟩
  | .hbm, ⟨1, _⟩ => ⟨S4x8192x128, .bf16⟩
  | .hbm, ⟨2, _⟩ => ⟨S80x8192x128, .bf16⟩
  | .hbm, ⟨3, _⟩ => ⟨S2x4096x2048, .f32⟩
  | .hbm, ⟨4, _⟩ => ⟨S1x1024x2048, .f32⟩
  | .hbm, ⟨5, _⟩ => ⟨S1x512x2048, .f32⟩
  | .hbm, ⟨6, _⟩ => ⟨S1x2048x2048, .f32⟩
  | .hbm, ⟨7, _⟩ => ⟨S1x2048, .f32⟩
  | .hbm, ⟨8, _⟩ => ⟨S80x8192x128, .f32⟩
  | .hbm, ⟨9, _⟩ => ⟨S8192x80x128, .f32⟩
  | .hbm, ⟨10, _⟩ => ⟨S8192x10240, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8x8192x128, .f32⟩
  | .hbm, ⟨22, _⟩ => ⟨S8192x8x128, .f32⟩
  | .hbm, ⟨23, _⟩ => ⟨S8192x1024, .f32⟩
  | .hbm, ⟨24, _⟩ => ⟨S1024x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S4x8192x128, .f32⟩
  | .hbm, ⟨36, _⟩ => ⟨S8192x4x128, .f32⟩
  | .hbm, ⟨37, _⟩ => ⟨S8192x512, .f32⟩
  | .hbm, ⟨38, _⟩ => ⟨S512x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S2048x2048, .f32⟩
  | .hbm, ⟨44, _⟩ => ⟨S8192x2048, .f32⟩
  | .hbm, ⟨45, _⟩ => ⟨S8192x2048, .f32⟩
  | .hbm, ⟨46, _⟩ => ⟨S2048, .f32⟩
  | .hbm, ⟨47, _⟩ => ⟨S8192x2048, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S1x2048, .f32⟩
  | .hbm, ⟨61, _⟩ => ⟨S8192x2048, .f32⟩
  | .hbm, ⟨62, _⟩ => ⟨S8192x2048, .f32⟩
  | .hbm, ⟨63, _⟩ => ⟨S8192x2048, .bf16⟩
  | _, _ => ⟨S8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Down.lean ====
abbrev S8192x16384 : Shape := ⟨2, ![8192, 16384]⟩
abbrev S16384x2048 : Shape := ⟨2, ![16384, 2048]⟩
abbrev S8192x2048 : Shape := ⟨2, ![8192, 2048]⟩
abbrev S2048 : Shape := ⟨1, ![2048]⟩
abbrev S1x2048 : Shape := ⟨2, ![1, 2048]⟩
abbrev S2048x1024 : Shape := ⟨2, ![2048, 1024]⟩
abbrev S1024x2048 : Shape := ⟨2, ![1024, 2048]⟩
abbrev S2048x128 : Shape := ⟨2, ![2048, 128]⟩
abbrev S2048x2048 : Shape := ⟨2, ![2048, 2048]⟩
abbrev S2048x1 : Shape := ⟨2, ![2048, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x16384, .bf16⟩
  | .hbm, ⟨1, _⟩ => ⟨S16384x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2048x128, .f32⟩
  | .local _ .vmem, ⟨5, _⟩ => ⟨S2048x128, .f32⟩
  | .local _ .vmem, ⟨6, _⟩ => ⟨S1x2048, .f32⟩
  | .local _ .vmem, ⟨7, _⟩ => ⟨S2048x2048, .f32⟩
  | .local _ .vmem, ⟨8, _⟩ => ⟨S2048x2048, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c128_i32 : BitVec 32 := 128#32
  let v10 : BitVec 32 := Scalar.muli arg1 c128_i32
  v10
def k0_off1 (i : grid0.Coords) : Fin 2 → Nat :=
  let c0_8 : Index := 0#32
  let arg1 : BitVec 32 := BitVec.ofNat 32 (i 1).val
  let c128_i32 : BitVec 32 := 128#32
  let v10 : BitVec 32 := Scalar.muli arg1 c128_i32
  let v11 : BitVec 32 := v10
  let v12 : Index := Scalar.indexCast v11
  ![0, v12.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DownRefIdeal.lean ====
abbrev S8192x16384 : Shape := ⟨2, ![8192, 16384]⟩
abbrev S16384x2048 : Shape := ⟨2, ![16384, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S16384x2048, .bf16⟩
  | .hbm, ⟨2, _⟩ => ⟨S8192x2048, .f32⟩
  | .hbm, ⟨3, _⟩ => ⟨S2048, .f32⟩
  | .hbm, ⟨4, _⟩ => ⟨S8192x16384, .f32⟩
  | .hbm, ⟨5, _⟩ => ⟨S16384x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Up.lean ====
abbrev S8192x2048 : Shape := ⟨2, ![8192, 2048]⟩
abbrev S1x16384x2048 : Shape := ⟨3, ![1, 16384, 2048]⟩
abbrev S8192x128 : Shape := ⟨2, ![8192, 128]⟩
abbrev S16384x2048 : Shape := ⟨2, ![16384, 2048]⟩
abbrev S2048x2048 : Shape := ⟨2, ![2048, 2048]⟩
abbrev S1024x2048 : Shape := ⟨2, ![1024, 2048]⟩
abbrev S2048x128 : Shape := ⟨2, ![2048, 128]⟩
abbrev S256x2048 : Shape := ⟨2, ![256, 2048]⟩
abbrev S256x128 : Shape := ⟨2, ![256, 128]⟩
abbrev S256x128x1 : Shape := ⟨3, ![256, 128, 1]⟩
abbrev S256x256 : Shape := ⟨2, ![256, 256]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x16384x2048, .f32⟩
  | .hbm, ⟨2, _⟩ => ⟨S8192x128, .i32⟩
  | .hbm, ⟨3, _⟩ => ⟨S16384x2048, .f32⟩
  | .hbm, ⟨4, _⟩ => ⟨S8192x128, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x128, .i32⟩
  | .local _ .vmem, ⟨5, _⟩ => ⟨S2048x128, .i32⟩
  | .local _ .vmem, ⟨6, _⟩ => ⟨S2048x128, .f32⟩
  | .local _ .vmem, ⟨7, _⟩ => ⟨S2048x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpRefIdeal.lean ====
abbrev S8192x2048 : Shape := ⟨2, ![8192, 2048]⟩
abbrev S1x16384x2048 : Shape := ⟨3, ![1, 16384, 2048]⟩
abbrev S8192x128 : Shape := ⟨2, ![8192, 128]⟩
abbrev S16384x2048 : Shape := ⟨2, ![16384, 2048]⟩
abbrev S_ : Shape := ⟨0, ![]⟩
abbrev S8192x128x1 : Shape := ⟨3, ![8192, 128, 1]⟩
abbrev S8192x128x2048 : Shape := ⟨3, ![8192, 128, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x16384x2048, .f32⟩
  | .hbm, ⟨2, _⟩ => ⟨S8192x128, .i32⟩
  | .hbm, ⟨3, _⟩ => ⟨S16384x2048, .f32⟩
  | .hbm, ⟨4, _⟩ => ⟨S_, .i32⟩
  | .hbm, ⟨5, _⟩ => ⟨S8192x128, .i32⟩
  | .hbm, ⟨6, _⟩ => ⟨S8192x128, .i1⟩
  | .hbm, ⟨7, _⟩ => ⟨S_, .i32⟩
  | .hbm, ⟨8, _⟩ => ⟨S8192x128, .i32⟩
  | .hbm, ⟨9, _⟩ => ⟨S8192x128, .i32⟩
  | .hbm, ⟨10, _⟩ => ⟨S8192x128, .i32⟩
  | .hbm, ⟨11, _⟩ => ⟨S8192x128x1, .i32⟩
  | .hbm, ⟨12, _⟩ => ⟨S8192x128x2048, .f32⟩
  | .hbm, ⟨13, _⟩ => ⟨S8192x2048, .f32⟩
  | .hbm, ⟨14, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.CoefRun.lean ====
/- The run of the coefficient kernel's body: every statement executed, the pieces its stores leave in the output block found. -/
module

public import proofs.«01_k».proof.Proof.Gen.Kernel.Frame
public import proofs.«01_k».proof.Proof.Gen.Kernel.Skeleton

@[expose] public section

set_option maxRecDepth 16384

noncomputable section

namespace Cert.Kernel.Coef

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the body is some fifteen thousand statements, all executed in one proof
set_option maxHeartbeats 40000000 in
/-- The body at any grid point, on whole staging buffers holding the three input blocks: it runs to its end, the inputs
    left as they were, the four scratch buffers left at something, and the output block left with the stored pieces
    `L` (last store first) over whatever it held. -/
noncomputable def bodyRun (c : Dev nD) (i : grid0.Coords)
    (arg1 : Memref sig .tc .vmem S128x128 .i32) (harg1 : arg1.IsWhole)
    (arg2 : Memref sig .tc .vmem S128x128 .f32) (harg2 : arg2.IsWhole)
    (arg3 : Memref sig .tc .vmem S128x128 .f32) (harg3 : arg3.IsWhole)
    (arg4 : Memref sig .tc .vmem S128x16384 .bf16) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S128x128x128 .f32) (harg8 : arg8.IsWhole)
    (x0 : Vec F S128x128 .i32) (x1 : Vec F S128x128 .f32) (x2 : Vec F S128x128 .f32) :
    { L : List (View.Piece (Elt F) S128x16384 .bf16) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)
                ∗ (∃ d, owns (c : Thread nD τ) arg5 fullShare d) ∗ (∃ d, owns (c : Thread nD τ) arg6 fullShare d)
                ∗ (∃ d, owns (c : Thread nD τ) arg7 fullShare d) ∗ (∃ d, owns (c : Thread nD τ) arg8 fullShare d)) -∗ K ⟨⟩))
          ⊢ wp frame (wpE (defs₀ (F := F)) Variants.none c none) E (cc0_peer_coef i arg1 harg1 arg2 harg2 arg3 harg3
              arg4 harg4 arg5 harg5 arg6 harg6 arg7 harg7 arg8 harg8) K } := by
  refine ⟨?_, fun E K => ?run⟩
  case run =>
    simp only [cc0_peer_coef_eq_skeleton]; unfold cc0_peer_coef_skel
    simp only [k0_part250_eq_skeleton, k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton, k0_part11_eq_skeleton,
      k0_part12_eq_skeleton, k0_part13_eq_skeleton, k0_part14_eq_skeleton, k0_part15_eq_skeleton, k0_part16_eq_skeleton, k0_part17_eq_skeleton,
      k0_part18_eq_skeleton, k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton, k0_part29_eq_skeleton,
      k0_part30_eq_skeleton, k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton, k0_part41_eq_skeleton,
      k0_part42_eq_skeleton, k0_part43_eq_skeleton, k0_part44_eq_skeleton, k0_part45_eq_skeleton, k0_part46_eq_skeleton, k0_part47_eq_skeleton,
      k0_part48_eq_skeleton, k0_part49_eq_skeleton, k0_part50_eq_skeleton, k0_part51_eq_skeleton, k0_part52_eq_skeleton, k0_part53_eq_skeleton,
      k0_part54_eq_skeleton, k0_part55_eq_skeleton, k0_part56_eq_skeleton, k0_part57_eq_skeleton, k0_part58_eq_skeleton, k0_part59_eq_skeleton,
      k0_part60_eq_skeleton, k0_part251_eq_skeleton, k0_part61_eq_skeleton, k0_part62_eq_skeleton, k0_part63_eq_skeleton, k0_part64_eq_skeleton,
      k0_part65_eq_skeleton, k0_part66_eq_skeleton, k0_part67_eq_skeleton, k0_part68_eq_skeleton, k0_part69_eq_skeleton, k0_part70_eq_skeleton,
      k0_part71_eq_skeleton, k0_part72_eq_skeleton, k0_part73_eq_skeleton, k0_part74_eq_skeleton, k0_part75_eq_skeleton, k0_part76_eq_skeleton,
      k0_part77_eq_skeleton, k0_part78_eq_skeleton, k0_part79_eq_skeleton, k0_part80_eq_skeleton, k0_part81_eq_skeleton, k0_part82_eq_skeleton,
      k0_part83_eq_skeleton, k0_part84_eq_skeleton, k0_part85_eq_skeleton, k0_part86_eq_skeleton, k0_part87_eq_skeleton, k0_part88_eq_skeleton,
      k0_part89_eq_skeleton, k0_part90_eq_skeleton, k0_part91_eq_skeleton, k0_part92_eq_skeleton, k0_part93_eq_skeleton, k0_part94_eq_skeleton,
      k0_part95_eq_skeleton, k0_part96_eq_skeleton, k0_part97_eq_skeleton, k0_part98_eq_skeleton, k0_part99_eq_skeleton, k0_part100_eq_skeleton,
      k0_part101_eq_skeleton, k0_part102_eq_skeleton, k0_part103_eq_skeleton, k0_part104_eq_skeleton, k0_part105_eq_skeleton, k0_part106_eq_skeleton,
      k0_part107_eq_skeleton, k0_part108_eq_skeleton, k0_part109_eq_skeleton, k0_part110_eq_skeleton, k0_part111_eq_skeleton, k0_part112_eq_skeleton,
      k0_part113_eq_skeleton, k0_part114_eq_skeleton, k0_part115_eq_skeleton, k0_part116_eq_skeleton, k0_part117_eq_skeleton, k0_part118_eq_skeleton,
      k0_part119_eq_skeleton, k0_part120_eq_skeleton, k0_part252_eq_skeleton, k0_part121_eq_skeleton, k0_part122_eq_skeleton, k0_part123_eq_skeleton,
      k0_part124_eq_skeleton, k0_part125_eq_skeleton, k0_part126_eq_skeleton, k0_part127_eq_skeleton, k0_part128_eq_skeleton, k0_part129_eq_skeleton,
      k0_part130_eq_skeleton, k0_part131_eq_skeleton, k0_part132_eq_skeleton, k0_part133_eq_skeleton, k0_part134_eq_skeleton, k0_part135_eq_skeleton,
      k0_part136_eq_skeleton, k0_part137_eq_skeleton, k0_part138_eq_skeleton, k0_part139_eq_skeleton, k0_part140_eq_skeleton, k0_part141_eq_skeleton,
      k0_part142_eq_skeleton, k0_part143_eq_skeleton, k0_part144_eq_skeleton, k0_part145_eq_skeleton, k0_part146_eq_skeleton, k0_part147_eq_skeleton,
      k0_part148_eq_skeleton, k0_part149_eq_skeleton, k0_part150_eq_skeleton, k0_part151_eq_skeleton, k0_part152_eq_skeleton, k0_part153_eq_skeleton,
      k0_part154_eq_skeleton, k0_part155_eq_skeleton, k0_part156_eq_skeleton, k0_part157_eq_skeleton, k0_part158_eq_skeleton, k0_part159_eq_skeleton,
      k0_part160_eq_skeleton, k0_part161_eq_skeleton, k0_part162_eq_skeleton, k0_part163_eq_skeleton, k0_part164_eq_skeleton, k0_part165_eq_skeleton,
      k0_part166_eq_skeleton, k0_part167_eq_skeleton, k0_part168_eq_skeleton, k0_part169_eq_skeleton, k0_part170_eq_skeleton, k0_part171_eq_skeleton,
      k0_part172_eq_skeleton, k0_part173_eq_skeleton, k0_part174_eq_skeleton, k0_part175_eq_skeleton, k0_part176_eq_skeleton, k0_part177_eq_skeleton,
      k0_part178_eq_skeleton, k0_part179_eq_skeleton, k0_part180_eq_skeleton, k0_part253_eq_skeleton, k0_part181_eq_skeleton, k0_part182_eq_skeleton,
      k0_part183_eq_skeleton, k0_part184_eq_skeleton, k0_part185_eq_skeleton, k0_part186_eq_skeleton, k0_part187_eq_skeleton, k0_part188_eq_skeleton,
      k0_part189_eq_skeleton, k0_part190_eq_skeleton, k0_part191_eq_skeleton, k0_part192_eq_skeleton, k0_part193_eq_skeleton, k0_part194_eq_skeleton,
      k0_part195_eq_skeleton, k0_part196_eq_skeleton, k0_part197_eq_skeleton, k0_part198_eq_skeleton, k0_part199_eq_skeleton, k0_part200_eq_skeleton,
      k0_part201_eq_skeleton, k0_part202_eq_skeleton, k0_part203_eq_skeleton, k0_part204_eq_skeleton, k0_part205_eq_skeleton, k0_part206_eq_skeleton,
      k0_part207_eq_skeleton, k0_part208_eq_skeleton, k0_part209_eq_skeleton, k0_part210_eq_skeleton, k0_part211_eq_skeleton, k0_part212_eq_skeleton,
      k0_part213_eq_skeleton, k0_part214_eq_skeleton, k0_part215_eq_skeleton, k0_part216_eq_skeleton, k0_part217_eq_skeleton, k0_part218_eq_skeleton,
      k0_part219_eq_skeleton, k0_part220_eq_skeleton, k0_part221_eq_skeleton, k0_part222_eq_skeleton, k0_part223_eq_skeleton, k0_part224_eq_skeleton,
      k0_part225_eq_skeleton, k0_part226_eq_skeleton, k0_part227_eq_skeleton, k0_part228_eq_skeleton, k0_part229_eq_skeleton, k0_part230_eq_skeleton,
      k0_part231_eq_skeleton, k0_part232_eq_skeleton, k0_part233_eq_skeleton, k0_part234_eq_skeleton, k0_part235_eq_skeleton, k0_part236_eq_skeleton,
      k0_part237_eq_skeleton, k0_part238_eq_skeleton, k0_part239_eq_skeleton, k0_part240_eq_skeleton, k0_part241_eq_skeleton, k0_part242_eq_skeleton,
      k0_part243_eq_skeleton, k0_part244_eq_skeleton, k0_part245_eq_skeleton, k0_part246_eq_skeleton, k0_part247_eq_skeleton, k0_part248_eq_skeleton,
      k0_part249_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩,
      ⟨%ds2, %fs2, -, HS2⟩, ⟨%ds3, %fs3, -, HS3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Coef

end
-- ==== Proof.CoefPieces.lean ====
/- The pieces the coefficient kernel's body stores, spelt as three families: the row each scratch load reads, the product
   slice of each token, and the output tile of each (group of sixteen tokens, first key). -/
module

public import proofs.«01_k».proof.Proof.Gen.Kernel.Frame
public import proofs.«01_k».proof.Proof.Gen.Kernel.Skeleton
public import Idealize.ShloMosaic.Lib.Pipeline.ReadBack

@[expose] public section

set_option maxRecDepth 16384

noncomputable section

namespace Cert.Kernel.Coef

open Cert.Kernel.Gen
open Idealize.ShloMosaic Idealize.ShloMosaic.TcCoe Idealize.ShloMosaic.Tactic

variable {F : FTy → Type} [BitOps F]

/-- One and zero, as the body's constants print. -/
def one : F .bf16 := FloatOps.ofBits .bf16 16256#16
def zero : F .bf16 := FloatOps.ofBits .bf16 0#16

/-- The whole of an input staging buffer, as the body loads it. -/
def whole {e : EltTy} (a : Memref sig .tc .vmem S128x128 e) (ha : a.IsWhole) (x : Vec F S128x128 e) : Vec F S128x128 e :=
  View.readAt (Elt F) a.view (Rect.unit ![0, 0] S128x128.size inb_S128x128_S128x128_0_0).toLoadRect (ha.unread x)

theorem inb_row (t : ℕ) (ht : t < 128) : ∀ a, (![t, 0] : Fin 2 → Nat) a + S1x128.size a ≤ S128x128.size a := by
  intro a; fin_cases a <;> simp [S1x128, S128x128] <;> omega

theorem inb_slice (t : ℕ) (ht : t < 128) : ∀ a, (![t, 0, 0] : Fin 3 → Nat) a + S1x128x128.size a ≤ S128x128x128.size a := by
  intro a; fin_cases a <;> simp [S1x128x128, S128x128x128] <;> omega

theorem inb_tile (b k : ℕ) (hb : b < 8) (hk : k < 128) :
    ∀ a, (![16 * b, 128 * k] : Fin 2 → Nat) a + S16x128.size a ≤ S128x16384.size a := by
  intro a; fin_cases a <;> simp [S16x128, S128x16384] <;> omega

theorem slices_key (k : ℕ) (hk : k < 128) : S128x8x128.Slices ![k, 0, 0] S1x8x128 := by
  refine ⟨rfl, fun a => ?_⟩
  fin_cases a <;> simp [S128x8x128, S1x8x128] <;> omega

/-- Row `t` of a [128, 128] scratch that was stored whole with `A`, as the body loads it. -/
def rowRead (a : Memref sig .tc .vmem S128x128 .f32) (A : Vec F S128x128 .f32) (t : ℕ) (ht : t < 128) : Vec F S1x128 .f32 :=
  a.view.readCov [⟨Rect.unit ![0, 0] S128x128.size inb_S128x128_S128x128_0_0, A⟩]
    (Rect.unit (s := S128x128) ![t, 0] S1x128.size (inb_row t ht)).toLoadRect

/-- The product slices of tokens `0 … n - 1`, last stored first. -/
def slices (P : (t : ℕ) → t < 128 → Vec F S1x128x128 .f32) : (n : ℕ) → n ≤ 128 → List (View.Piece (Elt F) S128x128x128 .f32)
  | 0, _ => []
  | n + 1, h => ⟨Rect.unit ![n, 0, 0] S1x128x128.size (inb_slice n h), P n h⟩ :: slices P n (Nat.le_of_succ_le h)

/-- Slice `t` of the product scratch after the first `n` tokens' slices were stored, as the body loads it. -/
def sliceRead (a : Memref sig .tc .vmem S128x128x128 .f32) (P : (t : ℕ) → t < 128 → Vec F S1x128x128 .f32) (n : ℕ) (hn : n ≤ 128)
    (t : ℕ) (ht : t < 128) : Vec F S1x128x128 .f32 :=
  a.view.readCov (slices P n hn) (Rect.unit (s := S128x128x128) ![t, 0, 0] S1x128x128.size (inb_slice t ht)).toLoadRect

/-- The words of two tokens' products: the second token's bf16 above the first's. -/
def pairWord (u v : Vec F S1x128x128 .f32) : IVec S1x128x128 32 :=
  shapeCast S1x128x128 (packElementwise (shapeCast S128x128 u shapeCasts_S1x128x128_S128x128)
    (shapeCast S128x128 v shapeCasts_S1x128x128_S128x128)) shapeCasts_S128x128_S1x128x128

/-- The words of the sixteen tokens `16 b … 16 b + 15`, the first key brought to the front. -/
def groupWords (R : (t : ℕ) → t < 128 → Vec F S1x128x128 .f32) (b : ℕ) (hb : b < 8) : IVec S128x8x128 32 :=
  transpose S128x8x128 [1, 0, 2] (concatenate S8x128x128 0
    [⟨S1x128x128, pairWord (R (16 * b + 0) (by omega)) (R (16 * b + 1) (by omega))⟩,
     ⟨S1x128x128, pairWord (R (16 * b + 2) (by omega)) (R (16 * b + 3) (by omega))⟩,
     ⟨S1x128x128, pairWord (R (16 * b + 4) (by omega)) (R (16 * b + 5) (by omega))⟩,
     ⟨S1x128x128, pairWord (R (16 * b + 6) (by omega)) (R (16 * b + 7) (by omega))⟩,
     ⟨S1x128x128, pairWord (R (16 * b + 8) (by omega)) (R (16 * b + 9) (by omega))⟩,
     ⟨S1x128x128, pairWord (R (16 * b + 10) (by omega)) (R (16 * b + 11) (by omega))⟩,
     ⟨S1x128x128, pairWord (R (16 * b + 12) (by omega)) (R (16 * b + 13) (by omega))⟩,
     ⟨S1x128x128, pairWord (R (16 * b + 14) (by omega)) (R (16 * b + 15) (by omega))⟩]
    concatenates_S1x128x128_S1x128x128_S1x128x128_S1x128x128_S1x128x128_S1x128x128_S1x128x128_S1x128x128_S8x128x128_d0)
    transposes_S8x128x128_p1_0_2_S128x8x128

/-- The sixteen rows of bf16 that a group's words hold at first key `k`. -/
def tile (W : IVec S128x8x128 32) (k : ℕ) (hk : k < 128) : FVec F S16x128 .bf16 :=
  bitcastToFloat .bf16 (bitcast S16x128 16 (shapeCast S8x128 (extractStridedSlice S1x8x128 ![k, 0, 0] W (slices_key k hk))
    shapeCasts_S1x8x128_S8x128) bitcasts_S8x128_w32_S16x128_w16)

/-- A group's stored tiles at first keys `0 … n - 1`, last stored first. -/
def tiles (b : ℕ) (hb : b < 8) (W : IVec S128x8x128 32) : (n : ℕ) → n ≤ 128 → List (View.Piece (Elt F) S128x16384 .bf16)
  | 0, _ => []
  | n + 1, h => ⟨Rect.unit ![16 * b, 128 * n] S16x128.size (inb_tile b n hb h), tile W n h⟩ :: tiles b hb W n (Nat.le_of_succ_le h)

section Stored

variable (arg1 : Memref sig .tc .vmem S128x128 .i32) (harg1 : arg1.IsWhole) (arg2 : Memref sig .tc .vmem S128x128 .f32) (harg2 : arg2.IsWhole)
  (arg3 : Memref sig .tc .vmem S128x128 .f32) (harg3 : arg3.IsWhole) (arg5 arg6 arg7 : Memref sig .tc .vmem S128x128 .f32)
  (arg8 : Memref sig .tc .vmem S128x128x128 .f32) (x0 : Vec F S128x128 .i32) (x1 x2 : Vec F S128x128 .f32)

/-- Token `t`'s product, as stored. -/
def product (t : ℕ) (ht : t < 128) : Vec F S1x128x128 .f32 :=
  k0_pay10 k0_pay9 one zero (rowRead arg5 (k0_pay6 (whole arg1 harg1 x0)) t ht) (rowRead arg6 (k0_pay7 (whole arg1 harg1 x0)) t ht)
    (rowRead arg7 (k0_pay8 (whole arg3 harg3 x2) (whole arg2 harg2 x1)) t ht)

/-- Group `b`'s tiles, as stored: its words are read after the products of the `n` tokens before. -/
def group (b : ℕ) (hb : b < 8) (n : ℕ) (hn : n ≤ 128) : List (View.Piece (Elt F) S128x16384 .bf16) :=
  tiles b hb (groupWords (sliceRead arg8 (product arg1 harg1 arg2 harg2 arg3 harg3 arg5 arg6 arg7 x0 x1 x2) n hn) b hb) 128 le_rfl

/-- All that the body stores in the output block, last first. -/
def stored : List (View.Piece (Elt F) S128x16384 .bf16) :=
  let g := group arg1 harg1 arg2 harg2 arg3 harg3 arg5 arg6 arg7 arg8 x0 x1 x2
  g 7 (by decide) 128 (by decide) ++ (g 6 (by decide) 128 (by decide) ++ (g 5 (by decide) 112 (by decide) ++ (g 4 (by decide) 96 (by decide)
    ++ (g 3 (by decide) 80 (by decide) ++ (g 2 (by decide) 64 (by decide) ++ (g 1 (by decide) 48 (by decide) ++ g 0 (by decide) 32 (by decide)))))))

end Stored

end Cert.Kernel.Coef

end
-- ==== Proof.CoefStored.lean ====
/- The pieces that the run of the coefficient kernel's body finds are those of the three families. -/
module

public import proofs.«01_k».proof.Proof.CoefRun
public import proofs.«01_k».proof.Proof.CoefPieces

@[expose] public section

set_option maxRecDepth 16384

noncomputable section

namespace Cert.Kernel.Coef

open Cert.Kernel.Gen
open Idealize.ShloMosaic Idealize.ShloMosaic.TcCoe Idealize.ShloMosaic.Tactic

variable {F : FTy → Type} [BitOps F]

set_option maxHeartbeats 4000000 in
/-- The pieces the run finds are those. -/
theorem bodyRun_pieces (c : Dev nD) (i : grid0.Coords) (arg1 : Memref sig .tc .vmem S128x128 .i32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S128x16384 .bf16) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S128x128x128 .f32) (harg8 : arg8.IsWhole)
    (x0 : Vec F S128x128 .i32) (x1 : Vec F S128x128 .f32) (x2 : Vec F S128x128 .f32) :
    (bodyRun c i arg1 harg1 arg2 harg2 arg3 harg3 arg4 harg4 arg5 harg5 arg6 harg6 arg7 harg7 arg8 harg8 x0 x1 x2).1
      = stored arg1 harg1 arg2 harg2 arg3 harg3 arg5 arg6 arg7 arg8 x0 x1 x2 := by
  sl_kernel_rfl

end Cert.Kernel.Coef

end
-- ==== Proof.Picks.lean ====
/- The coefficients of one token, as a function of its picks: the product of the picks' first keys' one-hot rows with their
   second keys' weighted one-hot rows. Both kernels are brought to this form. -/
module

public import Idealize.ShloMosaic.PureOps
public import Idealize.ShloMosaic.Lib.Pointwise

@[expose] public section

set_option maxRecDepth 16384

namespace Cert.Picks

open Idealize.ShloMosaic Idealize.ShloMosaic.Pointwise Idealize.ShloMosaic.TcCoe Idealize.ShloMosaic.Tactic

variable {F : FTy → Type} [FloatOps F]

/-- First keys by second keys (or by picks). -/
abbrev Sq : Shape := ⟨2, ![128, 128]⟩

/-- A contraction of both operands' second axes. -/
noncomputable def dims : DotDims Sq Sq Sq where
  lhsContracting := [1]
  rhsContracting := [1]
  lhsNonContracting := [0]
  rhsNonContracting := [0]
  lhsBatch := []
  rhsBatch := []
  wf := by decide

/-- A number below 128 as the bf16 keys are compared in. -/
noncomputable def key (w : BitVec 32) : F .bf16 := FloatOps.truncf .bf16 (by decide) (FloatOps.sitofp .f32 w : F .f32)

/-- A pick's weight: its gate times the GELU of its activation. -/
noncomputable def weight (g a : F .f32) : F .f32 :=
  FloatOps.mulf g (FloatOps.mulf (FloatOps.mulf (FloatOps.ofBits .f32 0x3F000000#32) a)
    (FloatOps.addf (FloatOps.ofBits .f32 0x3F800000#32) (FloatOps.erf (FloatOps.mulf a (FloatOps.ofBits .f32 0x3F3504F3#32)))))

/-- The one-hot rows of the picks' first keys. -/
noncomputable def first (e : Fin 128 → BitVec 32) : FVec F Sq .bf16 := fun j =>
  Scalar.select (FloatOps.cmpf .oeq (key (F := F) (BitVec.ofNat 32 (j 0).val)) (key (IntOp.shrsi .vector (e (j 1)) 7#32)))
    (FloatOps.ofBits .bf16 0x3F80#16) (FloatOps.ofBits .bf16 0#16)

/-- The one-hot rows of the picks' second keys, each pick's at its weight. -/
noncomputable def second (e : Fin 128 → BitVec 32) (g a : Fin 128 → F .f32) : FVec F Sq .bf16 := fun j =>
  Scalar.select (FloatOps.cmpf .oeq (key (F := F) (BitVec.ofNat 32 (j 0).val)) (key (IntOp.andi (e (j 1)) 127#32)))
    (FloatOps.truncf .bf16 (by decide) (weight (g (j 1)) (a (j 1)))) (FloatOps.ofBits .bf16 0#16)

/-- A token's coefficients, first key by second key. -/
noncomputable def coef (e : Fin 128 → BitVec 32) (g a : Fin 128 → F .f32) : FVec F Sq .f32 :=
  matmul dims none (first e) (second e g a) (constant Sq .f32 0#32)

/-- The coefficient of expert `n`, rounded to bf16. -/
noncomputable def coefAt (e : Fin 128 → BitVec 32) (g a : Fin 128 → F .f32) (n : Fin 16384) : F .bf16 :=
  FloatOps.truncf .bf16 (by decide) (coef e g a (ix2 ⟨n.val / 128, by omega⟩ ⟨n.val % 128, by omega⟩))

/-- Tokens by picks, and tokens by experts. -/
abbrev Rows : Shape := ⟨2, ![8192, 128]⟩
abbrev Table : Shape := ⟨2, ![8192, 16384]⟩

/-- The coefficients of all tokens. -/
noncomputable def table (e : Vec F Rows .i32) (g a : Vec F Rows .f32) : Vec F Table .bf16 := fun i =>
  coefAt (fun p => e (ix2 (i 0) p)) (fun p => g (ix2 (i 0) p)) (fun p => a (ix2 (i 0) p)) (i 1)

end Cert.Picks
-- ==== Proof.CoefValue.lean ====
/- What the pieces hold, element by element. -/
module

public import proofs.«01_k».proof.Proof.CoefPieces
public import proofs.«01_k».proof.Proof.Picks
public import Idealize.ShloMosaic.Lib.Bf16Pair
public import Idealize.ShloMosaic.Lib.Pointwise
public import Idealize.ShloMosaic.Lib.Pipeline.ValueKit

@[expose] public section

set_option maxRecDepth 16384

noncomputable section

namespace Cert.Kernel.Coef

open Cert.Kernel.Gen
open Idealize.ShloMosaic Idealize.ShloMosaic.Pointwise Idealize.ShloMosaic.TcCoe Idealize.ShloMosaic.Tactic

variable {F : FTy → Type} [BitOps F]

/-- The whole load reads the buffer. -/
theorem whole_eq {e : EltTy} (a : Memref sig .tc .vmem S128x128 e) (ha : a.IsWhole) (x : Vec F S128x128 e) : whole a ha x = x := by
  unfold whole
  simp only [View.readAt_eq_ld, ha.read_unread]
  exact View.ld_unit_lit' _ _ (by decide)

/-- A scratch row, loaded. -/
theorem rowRead_eq (a : Memref sig .tc .vmem S128x128 .f32) (A : Vec F S128x128 .f32) (t : ℕ) (ht : t < 128) :
    rowRead a A t ht = fun j => A (ix2 ⟨t, ht⟩ (j 1)) := by
  unfold rowRead
  rw [View.readCov_fill _ _ _ _ _ (by decide)]
  funext j
  idx_vars j
  show A _ = A _
  congr 1
  funext b
  fin_cases b
  · apply Fin.ext; simp
  · apply Fin.ext; simp

/-- A stored product slice, loaded. -/
theorem sliceRead_eq (a : Memref sig .tc .vmem S128x128x128 .f32) (P : (t : ℕ) → t < 128 → Vec F S1x128x128 .f32) :
    ∀ (n : ℕ) (hn : n ≤ 128) (t : ℕ) (ht : t < 128), t < n → sliceRead a P n hn t ht = P t ht
  | 0, _, _, _, h => absurd h (Nat.not_lt_zero _)
  | n + 1, hn, t, ht, h => by
    unfold sliceRead slices
    by_cases e : t = n
    · subst e
      exact View.readCov_cons_toLoadRect _ _ _ _
    · rw [View.readCov_skip]
      · exact sliceRead_eq a P n _ t ht (by omega)
      · refine decide_eq_true ⟨0, Or.inr (Or.inr ?_)⟩
        simp [Rect.unit, S1x128x128]
        omega

/-- A word of a pair, read. -/
theorem pairWord_apply (u v : Vec F S1x128x128 .f32) (i : S1x128x128.Idx) :
    pairWord u v i = BitOps.toBits (FloatOps.truncf .bf16 (by decide) (v i)) ++ BitOps.toBits (FloatOps.truncf .bf16 (by decide) (u i)) := by
  unfold pairWord
  idx_vars i
  obtain rfl : i0 = 0 := Subsingleton.elim _ _
  pointwise

/-- The words of a group, read: at first key `k`, pair `p` and second key `l`. -/
theorem groupWords_apply (R : (t : ℕ) → t < 128 → Vec F S1x128x128 .f32) (b : ℕ) (hb : b < 8) (k : Fin 128) (p : Fin 8) (l : Fin 128) :
    groupWords R b hb (ix3 k p l)
      = BitOps.toBits (FloatOps.truncf .bf16 (by decide) (R (16 * b + (2 * p.val + 1)) (by omega) (ix3 0 k l)))
        ++ BitOps.toBits (FloatOps.truncf .bf16 (by decide) (R (16 * b + 2 * p.val) (by omega) (ix3 0 k l))) := by
  unfold groupWords
  fin_cases p
  all_goals
    pointwise [pairWord_apply]

/-- A tile, read: the sixteen-bit half that row `r` names of the word of its pair. -/
theorem tile_apply (W : IVec S128x8x128 32) (k : ℕ) (hk : k < 128) (r : Fin 16) (l : Fin 128) :
    tile (F := F) W k hk (ix2 r l)
      = FloatOps.ofBits .bf16 ((W (ix3 ⟨k, hk⟩ ⟨r.val / 2, by omega⟩ l)).extractLsb' (16 * (r.val % 2)) 16) := by
  unfold tile
  rw [bitcastToFloat_apply, bitcast_32_16]
  have hrow : S16x128.row (ix2 r l) = r.val := rfl
  have hsrc : ∀ h, bitcasts_S8x128_w32_S16x128_w16.srcIdx (ix2 r l) (S16x128.row (ix2 r l) / 2) h
      = ix2 (⟨r.val / 2, by omega⟩ : Fin 8) l := by
    intro h
    funext a
    fin_cases a
    · rfl
    · rfl
  rw [hsrc, hrow]
  pointwise

/-- The low and the high half of a word put together from two. -/
theorem half_low (h l : BitVec 16) : (h ++ l).extractLsb' 0 16 = l := by
  apply BitVec.eq_of_getLsbD_eq
  intro i hi
  rw [BitVec.getLsbD_extractLsb', BitVec.getLsbD_append]
  simp [hi]

theorem half_high (h l : BitVec 16) : (h ++ l).extractLsb' 16 16 = h := by
  apply BitVec.eq_of_getLsbD_eq
  intro i hi
  rw [BitVec.getLsbD_extractLsb', BitVec.getLsbD_append]
  simp [hi]

/-- A tile of a group's words at the bits: row `r` at second key `l` is token `16 b + r`'s product rounded to bf16. -/
theorem tile_groupWords (R : (t : ℕ) → t < 128 → Vec Bits S1x128x128 .f32) (b : ℕ) (hb : b < 8) (k : ℕ) (hk : k < 128) (r : Fin 16)
    (l : Fin 128) :
    tile (F := Bits) (groupWords R b hb) k hk (ix2 r l)
      = (FloatOps.truncf .bf16 (by decide) (R (16 * b + r.val) (by omega) (ix3 0 ⟨k, hk⟩ l) : Bits .f32) : Bits .bf16) := by
  rw [tile_apply, groupWords_apply]
  rcases Nat.mod_two_eq_zero_or_one r.val with e | e
  · have hr : R (16 * b + r.val) (by omega) = R (16 * b + 2 * (r.val / 2)) (by omega) := by congr 1; omega
    rw [e, hr, half_low]
    rfl
  · have hr : R (16 * b + r.val) (by omega) = R (16 * b + (2 * (r.val / 2) + 1)) (by omega) := by congr 1; omega
    rw [e, hr, half_high]
    rfl

/-- The iota `16 a + b` over [8, 16, 128] words, read as the key of the flattened row. -/
theorem rowKey (k : Fin 128) :
    IntOp.addi (IntOp.muli (BitVec.ofNat 32 (k.val / 16)) 16#32) (BitVec.ofNat 32 (k.val % 16)) = BitVec.ofNat 32 k.val := by
  revert k
  decide +kernel

/-- A token's product from the rows of its picks, at the rows' values. -/
theorem product_apply (x0 : Vec F S128x128 .i32) (x1 x2 : Vec F S128x128 .f32) (t : Fin 128) (k l : Fin 128) :
    k0_pay10 k0_pay9 one zero (fun j => k0_pay6 x0 (ix2 t (j 1))) (fun j => k0_pay7 x0 (ix2 t (j 1))) (fun j => k0_pay8 x2 x1 (ix2 t (j 1)))
        (ix3 0 k l)
      = Picks.coef (fun p => x0 (ix2 t p)) (fun p => x1 (ix2 t p)) (fun p => x2 (ix2 t p)) (ix2 k l) := by
  unfold k0_pay10 k0_pay9
  pointwise
  unfold Picks.coef
  congr 1
  · funext j
    idx_vars j
    unfold Picks.first k0_pay6
    pointwise
    rw [rowKey]
    rfl
  · funext j
    idx_vars j
    unfold Picks.second k0_pay7 k0_pay8
    pointwise
    rw [rowKey]
    rfl

end Cert.Kernel.Coef

end
-- ==== Proof.CoefRead.lean ====
/- What the output block holds once the coefficient kernel's body has stored its tiles: row `t` is the coefficients of the
   block's token `t`. -/
module

public import proofs.«01_k».proof.Proof.CoefValue

@[expose] public section

set_option maxRecDepth 16384

noncomputable section

namespace Cert.Kernel.Coef

open Cert.Kernel.Gen
open Idealize.ShloMosaic Idealize.ShloMosaic.Pointwise Idealize.ShloMosaic.TcCoe Idealize.ShloMosaic.Tactic

/-- The coefficients of a block of tokens, row by row. -/
def blockOut {F : FTy → Type} [BitOps F] (x0 : Vec F S128x128 .i32) (x1 x2 : Vec F S128x128 .f32) : Vec F S128x16384 .bf16 := fun y =>
  Picks.coefAt (fun p => x0 (ix2 (y 0) p)) (fun p => x1 (ix2 (y 0) p)) (fun p => x2 (ix2 (y 0) p)) (y 1)

/-- A piece of a group's tiles is the tile of some first key. -/
theorem tiles_mem {F : FTy → Type} [BitOps F] (b : ℕ) (hb : b < 8) (W : IVec S128x8x128 32) :
    ∀ (n : ℕ) (hn : n ≤ 128) (p : View.Piece (Elt F) S128x16384 .bf16), p ∈ tiles b hb W n hn →
      ∃ (k : ℕ) (hk : k < 128), p = ⟨Rect.unit ![16 * b, 128 * k] S16x128.size (inb_tile b k hb hk), tile W k hk⟩
  | 0, _, _, h => absurd h List.not_mem_nil
  | n + 1, hn, p, h => by
    rcases List.mem_cons.mp h with e | h'
    · exact ⟨n, hn, e⟩
    · exact tiles_mem b hb W n _ p h'

/-- The tile of each first key is among a group's tiles. -/
theorem mem_tiles {F : FTy → Type} [BitOps F] (b : ℕ) (hb : b < 8) (W : IVec S128x8x128 32) (k : ℕ) (hk : k < 128) :
    ∀ (n : ℕ) (hn : n ≤ 128), k < n →
      (⟨Rect.unit ![16 * b, 128 * k] S16x128.size (inb_tile b k hb hk), tile W k hk⟩ : View.Piece (Elt F) S128x16384 .bf16) ∈ tiles b hb W n hn
  | 0, _, h => absurd h (Nat.not_lt_zero _)
  | n + 1, hn, h => by
    by_cases e : k = n
    · subst e
      exact List.mem_cons_self
    · exact List.mem_cons_of_mem _ (mem_tiles b hb W k hk n _ (by omega))

section Stored

variable (arg1 : Memref sig .tc .vmem S128x128 .i32) (harg1 : arg1.IsWhole) (arg2 : Memref sig .tc .vmem S128x128 .f32) (harg2 : arg2.IsWhole)
  (arg3 : Memref sig .tc .vmem S128x128 .f32) (harg3 : arg3.IsWhole) (arg5 arg6 arg7 : Memref sig .tc .vmem S128x128 .f32)
  (arg8 : Memref sig .tc .vmem S128x128x128 .f32) (x0 : Vec Bits S128x128 .i32) (x1 x2 : Vec Bits S128x128 .f32)

/-- A token's product as stored is its coefficients. -/
theorem product_eq (t : ℕ) (ht : t < 128) (k l : Fin 128) :
    product arg1 harg1 arg2 harg2 arg3 harg3 arg5 arg6 arg7 x0 x1 x2 t ht (ix3 0 k l)
      = Picks.coef (F := Bits) (fun p => x0 (ix2 ⟨t, ht⟩ p)) (fun p => x1 (ix2 ⟨t, ht⟩ p)) (fun p => x2 (ix2 ⟨t, ht⟩ p)) (ix2 k l) := by
  unfold product
  rw [whole_eq, whole_eq, whole_eq, rowRead_eq, rowRead_eq, rowRead_eq]
  exact product_apply x0 x1 x2 ⟨t, ht⟩ k l

/-- Each tile of a group holds the coefficients where it lies in the block. -/
theorem group_agrees (b : ℕ) (hb : b < 8) (n : ℕ) (hn : n ≤ 128) (h : 16 * b + 16 ≤ n) :
    ∀ p ∈ group arg1 harg1 arg2 harg2 arg3 harg3 arg5 arg6 arg7 arg8 x0 x1 x2 b hb n hn,
      ∀ x : p.1.shape.Idx, p.2 x = blockOut x0 x1 x2 (p.1.emb x) := by
  intro p hp
  obtain ⟨k, hk, rfl⟩ := tiles_mem b hb _ _ _ p hp
  intro i
  change S16x128.Idx at i
  idx_vars i
  refine (tile_groupWords _ b hb k hk _ _).trans ?_
  rw [sliceRead_eq _ _ n hn _ _ (by omega), product_eq]
  unfold blockOut Picks.coefAt
  have h0 : (Rect.unit (s := S128x16384) ![16 * b, 128 * k] S16x128.size (inb_tile b k hb hk)).emb (ix2 i0 i1) 0 = (⟨16 * b + i0.val, by omega⟩ : Fin 128) := by
    apply Fin.ext; simp
  have h1 : (Rect.unit (s := S128x16384) ![16 * b, 128 * k] S16x128.size (inb_tile b k hb hk)).emb (ix2 i0 i1) 1 = (⟨128 * k + i1.val, by omega⟩ : Fin 16384) := by
    apply Fin.ext; simp
  rw [h0, h1]
  congr 1
  congr 1
  congr 1
  · apply Fin.ext; show k = (128 * k + _) / 128; omega
  · apply Fin.ext; show _ = (128 * k + _) % 128; omega

/-- Each element of a group's rows lies in one of its tiles. -/
theorem group_covers (b : ℕ) (hb : b < 8) (n : ℕ) (hn : n ≤ 128) (y : S128x16384.Idx) (hy : (y 0).val / 16 = b) :
    ∃ p ∈ group arg1 harg1 arg2 harg2 arg3 harg3 arg5 arg6 arg7 arg8 x0 x1 x2 b hb n hn, y ∈ p.1.set := by
  have hy1 : (y 1).val < 16384 := (y 1).isLt
  refine ⟨_, mem_tiles b hb _ ((y 1).val / 128) (by omega) 128 le_rfl (by omega), ?_⟩
  rw [Rect.mem_set_unit]
  intro a
  fin_cases a
  · simp [S16x128]; omega
  · simp [S16x128]; omega

/-- What the stored tiles leave in the block. -/
theorem read_stored (v : View sig .tc .vmem S128x16384 .bf16) (f) :
    v.read (Elt Bits) (v.writes (Elt Bits) f (stored arg1 harg1 arg2 harg2 arg3 harg3 arg5 arg6 arg7 arg8 x0 x1 x2)) = blockOut x0 x1 x2 := by
  funext y
  have hy : (y 0).val < 128 := (y 0).isLt
  refine View.read_writes_apply_of_pieces _ _ _ _ ?_ y ?_
  · intro p hp
    simp only [stored, List.mem_append] at hp
    rcases hp with h | h | h | h | h | h | h | h
    all_goals exact group_agrees _ _ _ _ _ _ _ _ _ _ _ _ _ _ _ _ _ (by decide) p h
  · have hb : (y 0).val / 16 < 8 := by omega
    simp only [stored, List.mem_append]
    have hc : ∀ b hb n hn, (y 0).val / 16 = b → _ := fun b hb n hn => group_covers arg1 harg1 arg2 harg2 arg3 harg3 arg5 arg6 arg7 arg8 x0 x1 x2 b hb n hn y
    rcases (by omega : (y 0).val / 16 = 7 ∨ (y 0).val / 16 = 6 ∨ (y 0).val / 16 = 5 ∨ (y 0).val / 16 = 4 ∨ (y 0).val / 16 = 3
      ∨ (y 0).val / 16 = 2 ∨ (y 0).val / 16 = 1 ∨ (y 0).val / 16 = 0) with e | e | e | e | e | e | e | e
    · obtain ⟨p, hp, h⟩ := hc _ (by decide) 128 (by decide) e
      exact ⟨p, Or.inl hp, h⟩
    · obtain ⟨p, hp, h⟩ := hc _ (by decide) 128 (by decide) e
      exact ⟨p, Or.inr (Or.inl hp), h⟩
    · obtain ⟨p, hp, h⟩ := hc _ (by decide) 112 (by decide) e
      exact ⟨p, Or.inr (Or.inr (Or.inl hp)), h⟩
    · obtain ⟨p, hp, h⟩ := hc _ (by decide) 96 (by decide) e
      exact ⟨p, Or.inr (Or.inr (Or.inr (Or.inl hp))), h⟩
    · obtain ⟨p, hp, h⟩ := hc _ (by decide) 80 (by decide) e
      exact ⟨p, Or.inr (Or.inr (Or.inr (Or.inr (Or.inl hp)))), h⟩
    · obtain ⟨p, hp, h⟩ := hc _ (by decide) 64 (by decide) e
      exact ⟨p, Or.inr (Or.inr (Or.inr (Or.inr (Or.inr (Or.inl hp))))), h⟩
    · obtain ⟨p, hp, h⟩ := hc _ (by decide) 48 (by decide) e
      exact ⟨p, Or.inr (Or.inr (Or.inr (Or.inr (Or.inr (Or.inr (Or.inl hp)))))), h⟩
    · obtain ⟨p, hp, h⟩ := hc _ (by decide) 32 (by decide) e
      exact ⟨p, Or.inr (Or.inr (Or.inr (Or.inr (Or.inr (Or.inr (Or.inr hp)))))), h⟩

end Stored

end Cert.Kernel.Coef

end
-- ==== Proof.CoefFrame.lean ====
/- The launch of the coefficient kernel: from its body's run, what every grid point leaves, the run of the whole pipeline, and
   the result array it ends with. -/
module

public import proofs.«01_k».proof.Proof.CoefRun
public import proofs.«01_k».proof.Proof.CoefStored
public import proofs.«01_k».proof.Proof.CoefRead
public import Idealize.ShloMosaic.Lib.Claim

@[expose] public section

set_option maxRecDepth 16384

noncomputable section

namespace Cert.Kernel.Coef

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

variable (m : (ℓ : Loc nD τ sig) → Buf (Elt Bits) ℓ) (ρ : Dev nD → PrngReg)

/-! ## The buffers the body is called with -/

abbrev stg0 (t : Fin cfg0.N) : Memref sig .tc .vmem S128x128 .i32 := win0_0.stage (cfg0.slots t 0)
abbrev stg1 (t : Fin cfg0.N) : Memref sig .tc .vmem S128x128 .f32 := win0_1.stage (cfg0.slots t 1)
abbrev stg2 (t : Fin cfg0.N) : Memref sig .tc .vmem S128x128 .f32 := win0_2.stage (cfg0.slots t 2)
abbrev stg3 (t : Fin cfg0.N) : Memref sig .tc .vmem S128x16384 .bf16 := win0_3.stage (cfg0.slots t 3)
abbrev scr0 : Memref sig .tc .vmem S128x128 .f32 := Memref.whole cc0_scratch0
abbrev scr1 : Memref sig .tc .vmem S128x128 .f32 := Memref.whole cc0_scratch1
abbrev scr2 : Memref sig .tc .vmem S128x128 .f32 := Memref.whole cc0_scratch2
abbrev scr3 : Memref sig .tc .vmem S128x128x128 .f32 := Memref.whole cc0_scratch3

/-- The pipeline's invariant hands the body its four scratch buffers, at some contents. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-! ## What each point leaves -/

/-- The block of coefficients the body leaves at point `t`. -/
def outAt (c : Dev nD) (t : Fin cfg0.N) : Vec Bits S128x16384 .bf16 := blockOut (iblk m c 0 t) (iblk m c 1 t) (iblk m c 2 t)

/-- The pipeline's data: the inputs' buffers keep their blocks, the output's ends with the block's coefficients. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at a point -/

/-- What the body is called with, the windows one by one. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- What the body hands back. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t))

set_option maxHeartbeats 1600000 in
/-- The body at any point leaves the point's block of coefficients. -/
theorem body_sound (c : Dev nD) (t : Fin cfg0.N) :
    pre m c t ⊢ wp frame (wpE (defs₀ (F := Bits)) Variants.none c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, scratch_eq]
  iintro ⟨⟨⟨S0, S1, S2, S3⟩, Hg⟩, Ho, ⟨%d0, H0⟩, ⟨%d1, H1⟩, ⟨%d2, H2⟩, ⟨%d3, H3⟩⟩
  iapply ((bodyRun c (grid0.coords t) _ _ _ _ _ _ _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  iintro ⟨H0, H1, H2, ⟨%e3, H3⟩, S0, S1, S2, S3⟩
  isplitl [S0 S1 S2 S3 Hg]
  · isplitl [S0 S1 S2 S3]
    · isplitl [S0]
      · iexact S0
      isplitl [S1]
      · iexact S1
      isplitl [S2]
      · iexact S2
      iexact S3
    iexact Hg
  isplitl [Ho]; · iexact Ho
  isplitl [H0]; · iexact H0
  isplitl [H1]; · iexact H1
  isplitl [H2]; · iexact H2
  unfold owns; iexists _; isplitr
  swap; · iexact H3
  ipureintro
  rw [bodyRun_pieces]
  exact read_stored _ _ _ _ _ _ _ _ _ _ _ _ _ _ _

/-- The body table's row is the body at the point's slots. -/
theorem body_row (t : Fin cfg0.N) : defs₀ (F := Bits) .tc cfg0.body (cfg0.bodyArgs t (cfg0.slots t)) = bodyAt0 t := by
  unfold defs₀; rw [Defs.onTc_tc]

/-- The library's obligation on the body. -/
theorem obligation (c : Dev nD) : BodyObligation (dats m 0 c) (defs₀ (F := Bits)) Variants.none () Set.univ := fun t => by
  rw [bigSep_W0, bigSep_W0, body_row]
  exact triple_restated (body_sound m c t) rfl .rfl fun _ => .rfl

/-! ## The launch -/

set_option backward.isDefEq.respectTransparency.types false in
/-- Every execution ends, each array at what the data says and every counter at zero. -/
theorem run_quiescent : θ_run defs (onTc (τ := τ) (main (F := Bits))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The same without the counters. -/
theorem run : θ_run defs (onTc (τ := τ) (main (F := Bits))) (s₀ m ρ) (Pipeline.FramePost cfgs (dats m) 0 (V m)) :=
  (θ_run defs _ _).mono (fun _ h => h.1) (run_quiescent m ρ)

/-- The frame: the arguments end unchanged, no copy is in flight. -/
theorem coef_frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.Kernel.Coef

end
-- ==== Proof.CoefResult.lean ====
/- The result array of the coefficient kernel's run: every token's coefficients. -/
module

public import proofs.«01_k».proof.Proof.CoefFrame
public import Idealize.ShloMosaic.Lib.Pipeline.ValueKit

@[expose] public section

set_option maxRecDepth 16384

noncomputable section

namespace Cert.Kernel.Coef

open Cert.Kernel.Gen
open Idealize.ShloMosaic Idealize.ShloMosaic.Pointwise Idealize.ShloMosaic.TcCoe Idealize.ShloMosaic.Tactic
open Idealize.SL.Sem

variable (m : (ℓ : Loc nD τ sig) → Buf (Elt Bits) ℓ) (ρ : Dev nD → PrngReg)

/-- The block indices: the point on the tokens, zero on the other axis. -/
theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = t.val ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = t.val ∧ win0_3.index t (1 : Fin 2) = 0 := (by decide +kernel : ∀ t : Fin grid0.N, _)

/-- What the result array is shown to hold. -/
abbrev result (c : Dev nD) : Buf (Elt Bits) ((c : Thread nD τ).loc main_v0) :=
  Picks.table (F := Bits) (m ((c : Thread nD τ).loc main_arg0)) (m ((c : Thread nD τ).loc main_arg1)) (m ((c : Thread nD τ).loc main_arg2))

/-- The result array after the run. -/
theorem result_eq (c : Dev nD) : (dats m 0 c).arrAt 3 cfg0.N = result m c := by
  refine (dats m 0 c).arrAt_eq_of_covers 3 _ (by decide +kernel) fun t hf y => ?_
  have hN : cfg0.N = 64 := N_0
  have ht := t.isLt
  blk_simp
  rw [after_3]
  change S128x16384.Idx at y
  unfold outAt blockOut result Picks.table
  have e1 : y 1 = ((win0_3.blk t).view.emb y) 1 := by
    apply Fin.ext
    blk_simp [index_3 t]
  have r0 : ∀ p : Fin 128, iblk m c 0 t (ix2 (y 0) p) = m ((c : Thread nD τ).loc main_arg0) (ix2 (((win0_3.blk t).view.emb y) 0) p) := by
    intro p; blk_ext [iblk, V, index_0 t, index_3 t]
  have r1 : ∀ p : Fin 128, iblk m c 1 t (ix2 (y 0) p) = m ((c : Thread nD τ).loc main_arg1) (ix2 (((win0_3.blk t).view.emb y) 0) p) := by
    intro p; blk_ext [iblk, V, index_1 t, index_3 t]
  have r2 : ∀ p : Fin 128, iblk m c 2 t (ix2 (y 0) p) = m ((c : Thread nD τ).loc main_arg2) (ix2 (((win0_3.blk t).view.emb y) 0) p) := by
    intro p; blk_ext [iblk, V, index_2 t, index_3 t]
  simp only [r0, r1, r2]
  rw [e1]

/-- The run, with the result array at every token's coefficients and the arguments unchanged. -/
theorem run_result : θ_run defs (onTc (τ := τ) (main (F := Bits))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.out_eq c 3).trans (result_eq m c), h.in_eq c 0 rfl, h.in_eq c 1 rfl, h.in_eq c 2 rfl⟩) (run m ρ)

end Cert.Kernel.Coef

end
-- ==== Proof.TokensPieces.lean ====
/- The token-by-token kernel's stores: one row of coefficients per trip of its loop. At any float values, so for the printed
   program and its idealization alike. -/
module

public import proofs.«01_k».proof.Proof.Gen.Tokens.Frame
public import proofs.«01_k».proof.Proof.Picks
public import Idealize.ShloMosaic.Lib.Pipeline.ValueKit

@[expose] public section

set_option maxRecDepth 16384

noncomputable section

namespace Cert.Tokens.Rows

open Cert.Tokens.Gen
open Idealize.ShloMosaic Idealize.ShloMosaic.Pointwise Idealize.ShloMosaic.TcCoe Idealize.ShloMosaic.Tactic

variable {F : FTy → Type} [FloatOps F]

/-- The first token's coefficients, from the three rows it loads. -/
theorem first_apply (e : Vec F S1x128 .i32) (a g : Vec F S1x128 .f32) (n : Fin 16384) :
    k0_pay2 e a g (ix2 0 n)
      = Picks.coef (F := F) (fun p => e (ix2 0 p)) (fun p => g (ix2 0 p)) (fun p => a (ix2 0 p))
          (ix2 ⟨n.val / 128, by omega⟩ ⟨n.val % 128, by omega⟩) := by
  unfold k0_pay2
  pointwise
  unfold Picks.coef
  congr 1
  · funext j
    idx_vars j
    unfold Picks.first
    pointwise
    rfl
  · funext j
    idx_vars j
    unfold Picks.second
    pointwise
    rfl

/-- The two rows a trip stores. -/
theorem rows_apply (v : FVec F S1x16384 .f32) (e : Vec F S1x128 .i32) (a g : Vec F S1x128 .f32) (r : Fin 2) (n : Fin 16384) :
    k0_pay1 v e a g (ix2 r n) = FloatOps.truncf .bf16 (by decide) (if r = 0 then v (ix2 0 n) else k0_pay2 e a g (ix2 0 n)) := by
  unfold k0_pay1 k0_pay2
  fin_cases r
  · pointwise
  · pointwise

variable (c : Dev nD) (arg0 : Memref sig .tc .vmem S8192x128 .i32) (harg0 : arg0.IsWhole) (arg1 : Memref sig .tc .vmem S8192x128 .f32)
  (harg1 : arg1.IsWhole) (arg2 : Memref sig .tc .vmem S8192x128 .f32) (harg2 : arg2.IsWhole) (arg3 : Memref sig .tc .vmem S8192x16384 .bf16)
  (harg3 : arg3.IsWhole)

/-- The one piece a trip stores. -/
theorem trip_pieces (X0 : BufTy.Contents (Elt F) arg0.view.ty) (X1 : BufTy.Contents (Elt F) arg1.view.ty) (X2 : BufTy.Contents (Elt F) arg2.view.ty)
    (k : Fin k0_t1_loop.trips) :
    tripL_k0_t1 (F := F) Variants.none c none arg0 harg0 arg1 harg1 arg2 harg2 arg3 harg3 X0 X1 X2 k
      = [⟨Rect.unit (s := S8192x16384) (k0_off3 k) S2x16384.size (k0_off3_inb k),
          k0_pay1
            (k0_pay2 (View.readAt (Elt F) arg0.view (Rect.unit (s := S8192x128) (k0_off1 k) S1x128.size (k0_off1_inb k)).toLoadRect X0)
              (View.readAt (Elt F) arg2.view (Rect.unit (s := S8192x128) (k0_off1 k) S1x128.size (k0_off1_inb k)).toLoadRect X2)
              (View.readAt (Elt F) arg1.view (Rect.unit (s := S8192x128) (k0_off1 k) S1x128.size (k0_off1_inb k)).toLoadRect X1))
            (View.readAt (Elt F) arg0.view (Rect.unit (s := S8192x128) (k0_off2 k) S1x128.size (k0_off2_inb k)).toLoadRect X0)
            (View.readAt (Elt F) arg2.view (Rect.unit (s := S8192x128) (k0_off2 k) S1x128.size (k0_off2_inb k)).toLoadRect X2)
            (View.readAt (Elt F) arg1.view (Rect.unit (s := S8192x128) (k0_off2 k) S1x128.size (k0_off2_inb k)).toLoadRect X1)⟩] := by
  sl_kernel_rfl

/-- The run's pieces are the loop's. -/
theorem run_pieces (x0 : Vec F S8192x128 .i32) (x1 x2 : Vec F S8192x128 .f32) :
    (kernelRun0_A c arg0 harg0 arg1 harg1 arg2 harg2 arg3 harg3 x0 x1 x2).1
      = pb_k0_t1 (F := F) Variants.none c none arg0 harg0 arg1 harg1 arg2 harg2 arg3 harg3 (harg0.unread x0) (harg1.unread x1) (harg2.unread x2)
          k0_t1_loop.trips := by
  sl_kernel_rfl

/-- Trip `k` reads and stores at rows `2 k` and `2 k + 1`. -/
theorem offsets : ∀ k : Fin k0_t1_loop.trips, k0_off1 k = ![2 * k.val, 0] ∧ k0_off2 k = ![2 * k.val + 1, 0] ∧ k0_off3 k = ![2 * k.val, 0] := by
  decide +kernel

/-- A loaded row of a buffer. -/
theorem row_read {e : EltTy} (a : Memref sig .tc .vmem S8192x128 e) (ha : a.IsWhole) (x : Vec F S8192x128 e) (t : Fin 8192) (off : Fin 2 → ℕ)
    (h : ∀ b, off b + S1x128.size b ≤ S8192x128.size b) (ho : off = ![t.val, 0]) (p : Fin 128) :
    View.readAt (Elt F) a.view (Rect.unit (s := S8192x128) off S1x128.size h).toLoadRect (ha.unread x) (ix2 0 p) = x (ix2 t p) := by
  subst ho
  rw [View.readAt_eq_ld, ha.read_unread]
  show x _ = x _
  congr 1
  funext b
  fin_cases b
  · apply Fin.ext; simp
  · apply Fin.ext; simp

/-- The pieces of the trips before `n` hold the tokens' coefficients where they lie. -/
theorem pieces_agree (x0 : Vec F S8192x128 .i32) (x1 x2 : Vec F S8192x128 .f32) :
    ∀ n : ℕ, ∀ p ∈ pb_k0_t1 (F := F) Variants.none c none arg0 harg0 arg1 harg1 arg2 harg2 arg3 harg3 (harg0.unread x0) (harg1.unread x1)
        (harg2.unread x2) n, ∀ i : p.1.shape.Idx, p.2 i = Picks.table x0 x1 x2 (p.1.emb i)
  | 0, p, hp => absurd hp List.not_mem_nil
  | n + 1, p, hp => by
    by_cases hn : n < k0_t1_loop.trips
    · rw [pb_k0_t1_succ (F := F) Variants.none c none arg0 harg0 arg1 harg1 arg2 harg2 arg3 harg3 _ _ _ ⟨n, hn⟩, trip_pieces] at hp
      rcases List.mem_cons.mp hp with rfl | hp'
      · intro i
        obtain ⟨o1, o2, o3⟩ := offsets ⟨n, hn⟩
        have hn' : n < 4096 := Nat.lt_of_lt_of_le hn k0_t1_abs.2.1
        change S2x16384.Idx at i
        idx_vars i
        refine (rows_apply _ _ _ _ i0 i1).trans ?_
        have he : (Rect.unit (s := S8192x16384) (k0_off3 ⟨n, hn⟩) S2x16384.size (k0_off3_inb ⟨n, hn⟩)).emb (ix2 i0 i1)
            = ix2 (⟨2 * n + i0.val, by omega⟩ : Fin 8192) i1 := by
          funext b
          fin_cases b
          · apply Fin.ext; simp [o3]
          · apply Fin.ext; simp [o3]
        refine Eq.trans ?_ (congrArg (Picks.table x0 x1 x2) he).symm
        show _ = FloatOps.truncf .bf16 _ (Picks.coef (F := F) _ _ _ _)
        congr 1
        fin_cases i0
        · refine (if_pos rfl).trans ((first_apply _ _ _ i1).trans ?_)
          congr 1 <;> funext p <;> exact row_read _ _ _ ⟨2 * n, by omega⟩ _ _ o1 p
        · refine (if_neg (by decide)).trans ((first_apply _ _ _ i1).trans ?_)
          congr 1 <;> funext p <;> exact row_read _ _ _ ⟨2 * n + 1, by omega⟩ _ _ o2 p
      · exact pieces_agree x0 x1 x2 n p hp'
    · rw [pb_k0_t1.eq_2, pb_k0_t1Step, dif_neg hn] at hp
      exact pieces_agree x0 x1 x2 n p hp

/-- What the run leaves in the output's buffer. -/
theorem out_eq (x0 : Vec F S8192x128 .i32) (x1 x2 : Vec F S8192x128 .f32) :
    out0_A_3 c arg0 harg0 arg1 harg1 arg2 harg2 arg3 harg3 x0 x1 x2 = Picks.table x0 x1 x2 := by
  funext y
  unfold out0_A_3
  refine View.read_writes_apply_of_pieces _ _ _ _ ?_ y (cover0_A_3 c arg0 harg0 arg1 harg1 arg2 harg2 arg3 harg3 x0 x1 x2 y)
  rw [run_pieces]
  exact pieces_agree c arg0 harg0 arg1 harg1 arg2 harg2 arg3 harg3 x0 x1 x2 _

end Cert.Tokens.Rows

end
-- ==== Proof.TokensResult.lean ====
/- The result array of the token-by-token kernel's run, at any float values. -/
module

public import proofs.«01_k».proof.Proof.TokensPieces

@[expose] public section

set_option maxRecDepth 16384

noncomputable section

namespace Cert.Tokens.Rows

open Cert.Tokens.Gen
open Idealize.ShloMosaic Idealize.ShloMosaic.Pointwise Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The one point's blocks start at the arrays' origin. -/
theorem index_0 : ∀ t : Fin cfg0.N, win0_0.index t (0 : Fin 2) = 0 ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = 0 ∧ win0_2.index t (1 : Fin 2) = 0 := (by decide +kernel : ∀ t : Fin grid0.N, _)
theorem index_3 : ∀ t : Fin cfg0.N, win0_3.index t (0 : Fin 2) = 0 ∧ win0_3.index t (1 : Fin 2) = 0 := (by decide +kernel : ∀ t : Fin grid0.N, _)

/-- What the result array is shown to hold. -/
abbrev result (c : Dev nD) : Buf (Elt F) ((c : Thread nD τ).loc main_v0) :=
  Picks.table (F := F) (m ((c : Thread nD τ).loc main_arg0)) (m ((c : Thread nD τ).loc main_arg1)) (m ((c : Thread nD τ).loc main_arg2))

/-- The result array after the run. -/
theorem result_eq (c : Dev nD) : (dats m 0 c).arrAt 3 cfg0.N = result m c := by
  refine (dats m 0 c).arrAt_eq_of_covers 3 _ (by decide +kernel) fun t hf y => ?_
  blk_simp
  rw [after0_3]
  change S8192x16384.Idx at y
  have r0 : iblk m c 0 t = m ((c : Thread nD τ).loc main_arg0) := by
    funext p; blk_ext [iblk, V, index_0 t]
  have r1 : iblk m c 1 t = m ((c : Thread nD τ).loc main_arg1) := by
    funext p; blk_ext [iblk, V, index_1 t]
  have r2 : iblk m c 2 t = m ((c : Thread nD τ).loc main_arg2) := by
    funext p; blk_ext [iblk, V, index_2 t]
  unfold outsAt0
  rw [out_eq, r0, r1, r2]
  have he : (win0_3.blk t).view.emb y = y := by
    funext b
    fin_cases b
    · apply Fin.ext; blk_simp [index_3 t]
    · apply Fin.ext; blk_simp [index_3 t]
  exact congrArg (result m c) he.symm

/-- The run, with the result array at every token's coefficients and the arguments unchanged. -/
theorem run_result : θ_run defs (onTc (τ := τ) (main (F := F))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.out_eq c 3).trans (result_eq m c), h.in_eq c 0 rfl, h.in_eq c 1 rfl, h.in_eq c 2 rfl⟩) (run_main m ρ)

end Cert.Tokens.Rows

end
-- ==== Proof.TokensIdealResult.lean ====
/- The idealized token-by-token kernel's run: its text is the printed program's, whose run is stated at any float values. -/
module

public import proofs.«01_k».proof.Proof.TokensResult
public import proofs.«01_k».proof.Proof.Gen.TokensIdeal
public import Idealize.ShloMosaic.PureOps.Ideal

@[expose] public section

set_option maxRecDepth 16384

noncomputable section

namespace Cert.TokensIdeal.Rows

open Cert.TokensIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- What the result array is shown to hold. -/
abbrev result (c : Dev nD) : Buf (Elt Ideal) ((c : Thread nD τ).loc main_v0) :=
  Picks.table (F := Ideal) (m ((c : Thread nD τ).loc main_arg0)) (m ((c : Thread nD τ).loc main_arg1)) (m ((c : Thread nD τ).loc main_arg2))

/-- The run, with the result array at every token's coefficients and the arguments unchanged. -/
theorem run_result : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  have h := Cert.Tokens.Rows.run_result (F := Ideal) m ρ
  cast (by sl_kernel_rfl) h

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  have h := Cert.Tokens.Gen.frame (F := Ideal) m ρ
  cast (by sl_kernel_rfl) h

end Cert.TokensIdeal.Rows

end
-- ==== Proof.PicksIdeal.lean ====
/- The coefficients over the extended reals: expert `n`'s is the sum of the weights of the picks that name `n`. -/
module

public import proofs.«01_k».proof.Proof.Picks
public import Idealize.ShloMosaic.PureOps.Ideal
public import Idealize.ShloMosaic.PureOps.Ideal.Laws
public import Idealize.ShloMosaic.Lib.IdealHost
public import Idealize.ShloMosaic.Lib.ValueIdx

@[expose] public section

set_option maxRecDepth 16384

namespace Cert.Picks

open Idealize.ShloMosaic Idealize.ShloMosaic.Pointwise Idealize.ShloMosaic.TcCoe Idealize.ShloMosaic.Tactic

/-- A choice by an equality of keys. -/
theorem select_key {α : Type} (v w : BitVec 32) (x y : α) :
    Scalar.select (FloatOps.cmpf .oeq (key (F := Ideal) v) (key w)) x y = if v.toInt = w.toInt then x else y := by
  show Scalar.select (Ideal.cmp .oeq ((v.toInt : ℝ) : EReal) ((w.toInt : ℝ) : EReal)) x y = _
  by_cases h : v.toInt = w.toInt
  · simp [Scalar.select, Ideal.cmp, h]
  · simp [Scalar.select, Ideal.cmp, h]

/-- A pick has first key `n / 128` and second key `n % 128` exactly when it is `n`. -/
theorem keys_iff (w : BitVec 32) (n : ℕ) (hn : n < 16384) :
    ((BitVec.ofNat 32 (n / 128)).toInt = (IntOp.shrsi .vector w 7#32).toInt ∧ (BitVec.ofNat 32 (n % 128)).toInt = (IntOp.andi w 127#32).toInt)
      ↔ w = BitVec.ofNat 32 n := by
  have h1 : (IntOp.shrsi .vector w 7#32).toInt = w.toInt / 128 := by
    rw [IntOp.shrsi, if_pos (by decide), BitVec.toInt_sshiftRight']
    rw [Int.shiftRight_eq_div_pow]
    rfl
  have h2 : (IntOp.andi w 127#32).toInt = w.toNat % 128 := by
    have : (IntOp.andi w 127#32).toNat = w.toNat % 128 := by
      rw [IntOp.andi, BitVec.toNat_and]
      exact Nat.and_two_pow_sub_one_eq_mod w.toNat 7
    rw [BitVec.toInt_eq_toNat_cond, this]
    split <;> omega
  have h3 : (BitVec.ofNat 32 (n / 128)).toInt = n / 128 := by
    rw [BitVec.toInt_eq_toNat_cond, BitVec.toNat_ofNat]; split <;> omega
  have h4 : (BitVec.ofNat 32 (n % 128)).toInt = n % 128 := by
    rw [BitVec.toInt_eq_toNat_cond, BitVec.toNat_ofNat]; split <;> omega
  rw [h1, h2, h3, h4]
  have hw := w.isLt
  have ht := BitVec.toInt_eq_toNat_cond w
  constructor
  · rintro ⟨ha, hb⟩
    apply BitVec.eq_of_toNat_eq
    rw [BitVec.toNat_ofNat]
    split at ht <;> omega
  · rintro rfl
    rw [BitVec.toNat_ofNat] at *
    split at ht <;> omega

/-- The contraction's index is the pick. -/
noncomputable def pickEquiv : dims.contr.Idx ≃ Fin 128 := ValueIdx.contrEquiv1 dims 128 rfl rfl

/-- The first operand's index for a result's coordinates and a pick. -/
theorem first_idx (a b : Fin 128) (k : dims.contr.Idx) : dims.lhsIdx (ix2 a b) k = ix2 a (pickEquiv k) := by
  funext i
  fin_cases i <;> rfl

/-- The second operand's. -/
theorem second_idx (a b : Fin 128) (k : dims.contr.Idx) : dims.rhsIdx (ix2 a b) k = ix2 b (pickEquiv k) := by
  funext i
  fin_cases i <;> rfl

/-- Expert `n`'s coefficient. -/
theorem coefAt_eq (e : Fin 128 → BitVec 32) (g a : Fin 128 → EReal) (n : Fin 16384) :
    coefAt (F := Ideal) e g a n = ∑ p : Fin 128, if e p = BitVec.ofNat 32 n.val then weight (F := Ideal) (g p) (a p) else 0 := by
  show coef (F := Ideal) e g a _ = _
  unfold coef
  refine (Ideal.matmul_constant_zero_apply dims none (first (F := Ideal) e) (second (F := Ideal) e g a) _).trans ?_
  refine Fintype.sum_equiv pickEquiv _ _ fun k => ?_
  rw [first_idx, second_idx]
  show Scalar.select (FloatOps.cmpf .oeq (key (F := Ideal) (BitVec.ofNat 32 (n.val / 128))) (key (IntOp.shrsi .vector (e (pickEquiv k)) 7#32))) (Ideal.ofBits .bf16 0x3F80#16) (Ideal.ofBits .bf16 0#16)
    * Scalar.select (FloatOps.cmpf .oeq (key (F := Ideal) (BitVec.ofNat 32 (n.val % 128))) (key (IntOp.andi (e (pickEquiv k)) 127#32))) (weight (F := Ideal) (g (pickEquiv k)) (a (pickEquiv k))) (Ideal.ofBits .bf16 0#16) = _
  generalize pickEquiv k = p
  rw [select_key, select_key, Ideal.ofBits_one_bf16, Ideal.ofBits_zero_bf16]
  have h := keys_iff (e p) n.val n.isLt
  by_cases h1 : (BitVec.ofNat 32 (n.val / 128)).toInt = (IntOp.shrsi .vector (e p) 7#32).toInt
  · by_cases h2 : (BitVec.ofNat 32 (n.val % 128)).toInt = (IntOp.andi (e p) 127#32).toInt
    · rw [if_pos h1, if_pos h2, if_pos (h.mp ⟨h1, h2⟩), one_mul]
    · rw [if_neg h2, if_neg fun hh => h2 (h.mpr hh).2, mul_zero]
  · rw [if_neg h1, if_neg fun hh => h1 (h.mpr hh).1, zero_mul]

/-- A pick's weight with the GELU written by the complementary error function. -/
theorem weight_eq (g a : EReal) : weight (F := Ideal) g a
    = g * (Ideal.ofBits .f32 0x3F000000#32 * a * Ideal.erfc (-a * Ideal.ofBits .f32 0x3F3504F3#32)) := by
  show g * (Ideal.ofBits .f32 0x3F000000#32 * a * (Ideal.ofBits .f32 0x3F800000#32 + Ideal.erf (a * Ideal.ofBits .f32 0x3F3504F3#32))) = _
  rw [neg_mul, Ideal.erfc_neg, Ideal.ofBits_one_f32]

/-- The table of coefficients at a token and an expert. -/
theorem table_eq (e : Vec Ideal Rows .i32) (g a : Vec Ideal Rows .f32) (t : Fin 8192) (n : Fin 16384) :
    table (F := Ideal) e g a (ix2 t n) = ∑ p : Fin 128, if e (ix2 t p) = BitVec.ofNat 32 n.val
      then g (ix2 t p) * (Ideal.ofBits .f32 0x3F000000#32 * a (ix2 t p) * Ideal.erfc (-a (ix2 t p) * Ideal.ofBits .f32 0x3F3504F3#32)) else 0 := by
  refine (coefAt_eq _ _ _ n).trans (Finset.sum_congr rfl fun p _ => ?_)
  rw [weight_eq]
  rfl

end Cert.Picks
-- ==== Proof.ExpertsResult.lean ====
/- The host reference's result over the extended reals is the same array as the kernels'. -/
module

public import proofs.«01_k».proof.Proof.Gen.ExpertsIdeal.Run
public import proofs.«01_k».proof.Proof.PicksIdeal

@[expose] public section

set_option maxRecDepth 16384

noncomputable section

namespace Cert.ExpertsIdeal.Sums

open Cert.ExpertsIdeal.Gen
open Idealize.ShloMosaic Idealize.ShloMosaic.Pointwise Idealize.ShloMosaic.TcCoe Idealize.ShloMosaic.Tactic
open Idealize.SL.Sem

variable (m : (ℓ : Loc nD τ sig) → Buf (Elt Ideal) ℓ) (ρ : Dev nD → PrngReg)

/-- What the result array is shown to hold. -/
abbrev result (c : Dev nD) : Buf (Elt Ideal) ((c : Thread nD τ).loc main_v17) :=
  Picks.table (F := Ideal) (m ((c : Thread nD τ).loc main_arg0)) (m ((c : Thread nD τ).loc main_arg1)) (m ((c : Thread nD τ).loc main_arg2))

/-- The axis that the sum drops. -/
theorem reduces : S8192x128x16384.Reduces [1] S8192x16384 := by decide

/-- The sum over the picks. -/
theorem sum_picks (X : FVec Ideal S8192x128x16384 .f32) (t : Fin 8192) (n : Fin 16384) :
    (truncf .bf16 (Host.reduceAdd X (constant (F := Ideal) S_ .f32 0x00000000#32) reducesTo_S8192x128x16384_S8192x16384_d1 h_S_) bitsLt_bf16_f32
      : FVec Ideal S8192x16384 .bf16) (ix2 t n) = ∑ p : Fin 128, X (ix3 t p n) := by
  have h := Ideal.hostReduceAdd_single reducesTo_S8192x128x16384_S8192x16384_d1 reduces X (Ideal.ofBits .f32 0#32) (ix2 t n)
  rw [Ideal.ofBits_zero_f32, zero_add] at h
  have hl : ∀ p : Fin 128, reduces.lift (ix2 t n) p = ix3 t p n := by
    intro p
    funext b
    fin_cases b <;> rfl
  have h2 : (∑ p : Fin 128, X (reduces.lift (ix2 t n) p)) = ∑ p : Fin 128, X (ix3 t p n) :=
    Finset.sum_congr rfl fun p _ => congrArg X (hl p)
  rw [← h2]
  refine Eq.trans ?_ h
  rw [← Ideal.ofBits_zero_f32]
  rfl

/-- The operations' composed term at a token and an expert. -/
theorem sums_apply (e : IVec S8192x128 32) (w : FVec Ideal S8192x128 .f32) (t : Fin 8192) (n : Fin 16384) :
    (truncf .bf16 (Host.reduceAdd (select (cmpi .eq (broadcastInDim S8192x128x16384 ![0, 1, 2] bcast_S8192x128x1_S8192x128x16384_0_1_2 (broadcastInDim S8192x128x1 ![0, 1] bcast_S8192x128_S8192x128x1_0_1 e))
        (broadcastInDim S8192x128x16384 ![0, 1, 2] bcast_S1x1x16384_S8192x128x16384_0_1_2 (broadcastInDim S1x1x16384 ![2] bcast_S16384_S1x1x16384_2 (iotaInDim S16384 32 0))))
      (broadcastInDim S8192x128x16384 ![0, 1, 2] bcast_S8192x128x1_S8192x128x16384_0_1_2 (broadcastInDim S8192x128x1 ![0, 1] bcast_S8192x128_S8192x128x1_0_1 w))
      (broadcastInDim S8192x128x16384 ![] bcast_S_S8192x128x16384 (id (constant (F := Ideal) S_ .f32 0x00000000#32)))) (constant (F := Ideal) S_ .f32 0x00000000#32)
      reducesTo_S8192x128x16384_S8192x16384_d1 h_S_) bitsLt_bf16_f32 : FVec Ideal S8192x16384 .bf16) (ix2 t n)
      = ∑ p : Fin 128, if e (ix2 t p) = BitVec.ofNat 32 n.val then w (ix2 t p) else 0 := by
  refine (sum_picks _ t n).trans (Finset.sum_congr rfl fun p _ => ?_)
  pointwise
  show Scalar.select _ _ (Ideal.ofBits .f32 0#32) = _
  rw [Ideal.ofBits_zero_f32]
  by_cases h : e (ix2 t p) = BitVec.ofNat 32 n.val
  · simp [h, Scalar.select, IntOp.cmpi]
  · have hb : (e (ix2 t p) == BitVec.ofNat 32 n.val) = false := beq_false_of_ne h
    rw [if_neg h]
    simp only [Scalar.select, IntOp.cmpi, hb]
    rfl

/-- The run, with the result array at every token's coefficients and the arguments unchanged. -/
theorem run_result : θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run (F := Ideal) m ρ)
  funext i
  change S8192x16384.Idx at i
  idx_vars i
  refine (sums_apply _ _ i0 i1).trans ?_
  unfold result
  rw [Picks.table_eq]
  refine Finset.sum_congr rfl fun p _ => ?_
  rfl

end Cert.ExpertsIdeal.Sums

end
-- ==== Proof.CoefClaims.lean ====
/- The claims about the coefficient kernel and its two references. -/
module

public import proofs.«01_k».proof.Defs
public import proofs.«01_k».proof.Proof.CoefResult
public import proofs.«01_k».proof.Proof.TokensResult
public import proofs.«01_k».proof.Proof.TokensIdealResult
public import proofs.«01_k».proof.Proof.ExpertsResult
public import Idealize.ShloMosaic.Lib.Quiescent

@[expose] public section

noncomputable section

namespace Cert.CoefClaims

open Idealize.ShloMosaic Idealize.ShloMosaic.TcCoe Idealize.SL.Sem

/-- The kernel's frame. -/
theorem frame_kernel : Cert.quiescent_Kernel := fun m ρ _ => Cert.Kernel.Coef.coef_frame m ρ

/-- The token-by-token reference's frame. -/
theorem frame_tokens : Cert.quiescent_Tokens := fun m ρ _ => Cert.Tokens.Gen.frame m ρ

/-- Its idealization's frame. -/
theorem frame_tokens_ideal : Cert.quiescent_TokensIdeal := fun m ρ _ => Cert.TokensIdeal.Rows.frame m ρ

/-- The host reference's frame. -/
theorem frame_experts_ideal : Cert.quiescent_ExpertsIdeal := fun m ρ _ =>
  (θ_run Cert.ExpertsIdeal.defs _ _).mono (fun _ h => ⟨fun c => (h c).2, sem_eq_zero_of_no_sems rfl _⟩) (Cert.ExpertsIdeal.Value.run m ρ)

/-- The kernel and the token-by-token reference end with the same words. -/
theorem same_words : Cert.bitexact_Kernel_Tokens := fun m ρ m' ρ' _ hagree =>
  ⟨fun c => Cert.Kernel.Coef.result m c, Cert.Kernel.Coef.run_result m ρ,
    (θ_run Cert.Tokens.defs _ _).mono (fun _ h c => ⟨(h c).1.trans (by
      unfold Cert.Tokens.Rows.result Cert.Kernel.Coef.result
      rw [(hagree c).1, (hagree c).2.1, (hagree c).2.2]), (h c).2⟩) (Cert.Tokens.Rows.run_result (F := Bits) m' ρ')⟩

/-- Over the extended reals the token-by-token reference computes the sums over the picks. -/
theorem same_sums : Cert.algebraic_TokensIdeal_ExpertsIdeal := fun m ρ m' ρ' _ hagree =>
  ⟨fun c => Cert.TokensIdeal.Rows.result m c, Cert.TokensIdeal.Rows.run_result m ρ,
    (θ_run Cert.ExpertsIdeal.defs _ _).mono (fun _ h c => ⟨(h c).1.trans (by
      unfold Cert.TokensIdeal.Rows.result Cert.ExpertsIdeal.Sums.result
      rw [(hagree c).1, (hagree c).2.1, (hagree c).2.2]), (h c).2⟩) (Cert.ExpertsIdeal.Sums.run_result m' ρ')⟩

end Cert.CoefClaims

end
-- ==== Proof.Layer.lean ====
/- What the layer's dense parts compute, over the extended reals: the norm of a row, the in-projection, the residual after the
   out-projection, the picks' activations, and the experts' output. -/
module

public import Idealize.ShloMosaic.PureOps.Ideal
public import Idealize.ShloMosaic.Lib.Pointwise

@[expose] public section

noncomputable section

namespace Cert.Layer

open Idealize.ShloMosaic Idealize.ShloMosaic.Pointwise

/-- Shapes by their extents. -/
abbrev A2 (a b : ℕ) : Shape := ⟨2, ![a, b]⟩
abbrev A3 (a b c : ℕ) : Shape := ⟨3, ![a, b, c]⟩

/-- One element of the norm: the element over the root of the row's mean square, times the gain. -/
def norm (x : Fin 2048 → EReal) (g : EReal) (d : Fin 2048) : EReal :=
  x d * Ideal.rsqrt (Ideal.div (∑ k : Fin 2048, x k * x k) (Ideal.ofBits .f32 0x45000000#32) + Ideal.ofBits .f32 0x358637BD#32) * g

/-- Token `t`'s row of the input. -/
def token (x : (A3 2 4096 2048).Idx → EReal) (t : Fin 8192) (d : Fin 2048) : EReal :=
  x (ix3 ⟨t.val / 4096, by omega⟩ ⟨t.val % 4096, by omega⟩ d)

/-- The in-projection of token `t`, at column `128 q + l`. -/
def proj (x : (A3 2 4096 2048).Idx → EReal) (g : (A2 1 2048).Idx → EReal) (w : (A3 1 2048 10240).Idx → EReal) (q : Fin 80) (t : Fin 8192)
    (l : Fin 128) : EReal :=
  ∑ k : Fin 2048, norm (token x t) (g (ix2 0 k)) k * w (ix3 0 k ⟨q.val * 128 + l.val, by omega⟩)

/-- The array of the in-projection. -/
def projArray (x : (A3 2 4096 2048).Idx → EReal) (g : (A2 1 2048).Idx → EReal) (w : (A3 1 2048 10240).Idx → EReal) : (A3 80 8192 128).Idx → EReal :=
  fun i => proj x g w (i 0) (i 1) (i 2)

/-- Attention A's heads at token `t`, through their weights, at column `d`. -/
def attnA (oa : (A3 8 8192 128).Idx → EReal) (w : (A3 1 1024 2048).Idx → EReal) (t : Fin 8192) (d : Fin 2048) : EReal :=
  ∑ k : Fin 1024, oa (ix3 ⟨k.val / 128, by omega⟩ t ⟨k.val % 128, by omega⟩) * w (ix3 0 k d)

/-- Attention B's heads at token `t`, through their weights, at column `d`. -/
def attnB (ob : (A3 4 8192 128).Idx → EReal) (w : (A3 1 512 2048).Idx → EReal) (t : Fin 8192) (d : Fin 2048) : EReal :=
  ∑ k : Fin 512, ob (ix3 ⟨k.val / 128, by omega⟩ t ⟨k.val % 128, by omega⟩) * w (ix3 0 k d)

/-- Attention A's gate at token `t`, column `d`: the projection's columns from 6144 on. -/
def gateA (p : (A3 80 8192 128).Idx → EReal) (t : Fin 8192) (d : Fin 2048) : EReal :=
  p (ix3 ⟨(6144 + d.val) / 128, by omega⟩ t ⟨(6144 + d.val) % 128, by omega⟩)

/-- Attention B's gate: the projection's columns from 8192 on. -/
def gateB (p : (A3 80 8192 128).Idx → EReal) (t : Fin 8192) (d : Fin 2048) : EReal :=
  p (ix3 ⟨(8192 + d.val) / 128, by omega⟩ t ⟨(8192 + d.val) % 128, by omega⟩)

/-- The two attentions, each through its gate, summed. -/
def merged (oa : (A3 8 8192 128).Idx → EReal) (ob : (A3 4 8192 128).Idx → EReal) (p : (A3 80 8192 128).Idx → EReal)
    (wa : (A3 1 1024 2048).Idx → EReal) (wb : (A3 1 512 2048).Idx → EReal) (t : Fin 8192) (d : Fin 2048) : EReal :=
  Ideal.logistic (gateA p t d) * attnA oa wa t d + Ideal.logistic (gateB p t d) * attnB ob wb t d

/-- The residual after the out-projection. -/
def residual (oa : (A3 8 8192 128).Idx → EReal) (ob : (A3 4 8192 128).Idx → EReal) (p : (A3 80 8192 128).Idx → EReal)
    (x : (A3 2 4096 2048).Idx → EReal) (wa : (A3 1 1024 2048).Idx → EReal) (wb : (A3 1 512 2048).Idx → EReal)
    (wo : (A3 1 2048 2048).Idx → EReal) (t : Fin 8192) (d : Fin 2048) : EReal :=
  token x t d + ∑ k : Fin 2048, merged oa ob p wa wb t k * wo (ix3 0 k d)

/-- The array of the residual. -/
def residualArray (oa : (A3 8 8192 128).Idx → EReal) (ob : (A3 4 8192 128).Idx → EReal) (p : (A3 80 8192 128).Idx → EReal)
    (x : (A3 2 4096 2048).Idx → EReal) (wa : (A3 1 1024 2048).Idx → EReal) (wb : (A3 1 512 2048).Idx → EReal)
    (wo : (A3 1 2048 2048).Idx → EReal) : (A2 8192 2048).Idx → EReal :=
  fun i => residual oa ob p x wa wb wo (i 0) (i 1)

/-- The array of the residual's norm. -/
def normedArray (oa : (A3 8 8192 128).Idx → EReal) (ob : (A3 4 8192 128).Idx → EReal) (p : (A3 80 8192 128).Idx → EReal)
    (x : (A3 2 4096 2048).Idx → EReal) (wa : (A3 1 1024 2048).Idx → EReal) (wb : (A3 1 512 2048).Idx → EReal)
    (wo : (A3 1 2048 2048).Idx → EReal) (g : (A2 1 2048).Idx → EReal) : (A2 8192 2048).Idx → EReal :=
  fun i => norm (residual oa ob p x wa wb wo (i 0)) (g (ix2 0 (i 1))) (i 1)

/-- The experts' output before the last norm: the residual and the experts' rows times the token's coefficients. -/
def mixture (a : (A2 8192 16384).Idx → EReal) (v : (A2 16384 2048).Idx → EReal) (x : (A2 8192 2048).Idx → EReal) (t : Fin 8192)
    (d : Fin 2048) : EReal :=
  x (ix2 t d) + ∑ e : Fin 16384, a (ix2 t e) * v (ix2 e d)

/-- The layer's result. -/
def resultArray (a : (A2 8192 16384).Idx → EReal) (v : (A2 16384 2048).Idx → EReal) (x : (A2 8192 2048).Idx → EReal)
    (g : (⟨1, ![2048]⟩ : Shape).Idx → EReal) : (A2 8192 2048).Idx → EReal :=
  fun i => norm (mixture a v x (i 0)) (g (ix1 (i 1))) (i 1)

/-- A pick's activation: the token against the expert the pick names. -/
def activation (h : (A2 8192 2048).Idx → EReal) (u : (A3 1 16384 2048).Idx → EReal) (e : (A2 8192 128).Idx → BitVec 32) (t : Fin 8192)
    (p : Fin 128) : EReal :=
  ∑ d : Fin 2048, h (ix2 t d) * u (ix3 0 ⟨(e (ix2 t p)).toNat % 16384, Nat.mod_lt _ (by decide)⟩ d)

/-- That, or a zero for a pick that names no expert. -/
def picked (h : (A2 8192 2048).Idx → EReal) (u : (A3 1 16384 2048).Idx → EReal) (e : (A2 8192 128).Idx → BitVec 32) (t : Fin 8192)
    (p : Fin 128) : EReal :=
  if (e (ix2 t p)).toNat < 16384 then activation h u e t p else 0

/-- The array of the picks' activations. -/
def picksArray (h : (A2 8192 2048).Idx → EReal) (u : (A3 1 16384 2048).Idx → EReal) (e : (A2 8192 128).Idx → BitVec 32) :
    (A2 8192 128).Idx → EReal :=
  fun i => picked h u e (i 0) (i 1)

end Cert.Layer

end
-- ==== Proof.InRows.lean ====
/- What the in-projection's pieces compute over the extended reals. -/
module

public import proofs.«01_k».proof.Proof.Gen.InProjIdeal.Skeleton
public import proofs.«01_k».proof.Proof.Layer
public import Idealize.ShloMosaic.Lib.Pointwise
public import Idealize.ShloMosaic.Lib.ValueIdx
public import Idealize.ShloMosaic.PureOps.Ideal.Laws
public import Idealize.ShloMosaic.Lib.IdealHost

@[expose] public section

set_option maxRecDepth 16384

noncomputable section

namespace Cert.InProjIdeal.Rows

open Cert.InProjIdeal Cert.InProjIdeal.Gen Idealize.ShloMosaic Idealize.ShloMosaic.Pointwise

/-- The normed rows. -/
theorem norm_apply (x : Vec Ideal S1024x2048 .f32) (g : Vec Ideal S1x2048 .f32) (r : Fin 1024) (d : Fin 2048) :
    k0_pay6 (F := Ideal) x g (ix2 r d) = Layer.norm (fun k => x (ix2 r k)) (g (ix2 0 d)) d := by
  unfold k0_pay6 Layer.norm
  pointwise

/-- The product. -/
theorem product_apply (h : Vec Ideal S1024x2048 .bf16) (w : Vec Ideal S2048x2048 .bf16) (r : Fin 1024) (d : Fin 2048) :
    k0_pay7 (F := Ideal) h w (ix2 r d) = ∑ k : Fin 2048, h (ix2 r k) * w (ix2 k d) := by
  unfold k0_pay7
  pointwise

end Cert.InProjIdeal.Rows

end
-- ==== Proof.InStores.lean ====
/- The in-projection's stores: each fills one group of 128 columns of the product, and the scratch keeps the normed rows of the
   current row block. -/
module

public import proofs.«01_k».proof.Proof.InRows
public import proofs.«01_k».proof.Proof.Gen.InProjIdeal.Value
public import Idealize.ShloMosaic.Lib.Pipeline.ValueKit

@[expose] public section

set_option maxRecDepth 16384

noncomputable section

namespace Cert.InProjIdeal.Rows

open Cert.InProjIdeal Cert.InProjIdeal.Gen
open Idealize.ShloMosaic Idealize.ShloMosaic.Pointwise Idealize.ShloMosaic.TcCoe Idealize.ShloMosaic.Tactic

variable (m : (ℓ : Loc nD τ sig) → Buf (Elt Ideal) ℓ)

/-- Where each point stands: row block `t / 5`, column block `t % 5`. -/
theorem idx : ∀ t : Fin cfg0.N, win0_0.index t = ![t.val / 5, 0] ∧ win0_1.index t = ![0, 0] ∧ win0_2.index t = ![0, t.val % 5]
    ∧ win0_3.index t = ![t.val % 5, t.val / 5, 0] := (by decide +kernel : ∀ t : Fin grid0.N, _)

/-- The normed rows of the row block at point `t`. -/
abbrev rows (c : Dev nD) (t : Fin cfg0.N) : Vec Ideal S1024x2048 .bf16 := k0_pay6 (F := Ideal) (iblk m c 0 t) (iblk m c 1 t)

/-- The row block at a point that is not the first of its row block is the one before's. -/
theorem rows_pred (c : Dev nD) (n : ℕ) (h : n + 1 < cfg0.N) (hn : ¬(n + 1) % 5 = 0) :
    rows m c ⟨n, Nat.lt_of_succ_lt h⟩ = rows m c ⟨n + 1, h⟩ := by
  have e0 : iblk m c 0 ⟨n, Nat.lt_of_succ_lt h⟩ = iblk m c 0 ⟨n + 1, h⟩ := by
    funext y
    blk_ext [iblk, V, idx ⟨n, Nat.lt_of_succ_lt h⟩, idx ⟨n + 1, h⟩]
  have e1 : iblk m c 1 ⟨n, Nat.lt_of_succ_lt h⟩ = iblk m c 1 ⟨n + 1, h⟩ := by
    funext y
    blk_ext [iblk, V, idx ⟨n, Nat.lt_of_succ_lt h⟩, idx ⟨n + 1, h⟩]
  unfold rows
  rw [e0, e1]

/-- The scratch after every point holds the normed rows of its row block. -/
theorem scratch_eq (c : Dev nD) : ∀ (n : ℕ) (h : n < cfg0.N), (outsAt0 m c n h).2 = rows m c ⟨n, h⟩
  | 0, h => by
    rw [outsAt0_A m c ⟨0, h⟩ rfl]
    frame_out
  | n + 1, h => by
    by_cases h0 : (n + 1) % 5 = 0
    · rw [outsAt0_A m c ⟨n + 1, h⟩ h0]
      frame_out
    · rw [outsAt0_B m c ⟨n + 1, h⟩ h0, ← rows_pred m c n h h0, ← scratch_eq c n (Nat.lt_of_succ_lt h)]
      rfl

/-- What the sixteen stores of a later point leave, for any scratch. -/
theorem stored_B (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x2048 .bf16) (harg4 : arg4.IsWhole)
    (arg5 : Memref sig .tc .vmem S16x1024x128 .bf16) (harg5 : arg5.IsWhole) (arg6 : Memref sig .tc .vmem S1024x2048 .bf16) (harg6 : arg6.IsWhole)
    (hc0 : ¬cond0_0 i) (x0 : Vec Ideal S1024x2048 .f32) (x1 : Vec Ideal S1x2048 .f32) (x2 : Vec Ideal S2048x2048 .bf16)
    (xs0 : Vec Ideal S1024x2048 .bf16) (y : S16x1024x128.Idx) (j : S1024x2048.Idx) (hj0 : (j 0 : ℕ) = y 1)
    (hj1 : (j 1 : ℕ) = (y 0 : ℕ) * 128 + (y 2 : ℕ)) :
    out0_B_3 c i arg2 harg2 arg3 harg3 arg4 harg4 arg5 harg5 arg6 harg6 hc0 x0 x1 x2 xs0 y = k0_pay7 (F := Ideal) xs0 x2 j := by
  frame_out
  canon_tiles x h
  all_goals (open_payloads; pointwise; blk_ext)

/-- The output block's entry of any sixteen stores of the product's column groups. -/
theorem block_eq (c : Dev nD) (t : Fin cfg0.N) (y : S16x1024x128.Idx) (i : S1024x2048.Idx) (hi0 : (i 0 : ℕ) = y 1)
    (hi1 : (i 1 : ℕ) = (y 0 : ℕ) * 128 + (y 2 : ℕ)) :
    (outsAt0 m c t.val t.isLt).1 y = k0_pay7 (F := Ideal) (rows m c t) (iblk m c 2 t) i := by
  by_cases h0 : t.val % 5 = 0
  · rw [outsAt0_A m c t h0]
    frame_out
    unfold rows
    canon_tiles x h
    all_goals (open_payloads; pointwise; blk_ext)
  · obtain ⟨n, hn⟩ := t
    obtain _ | n := n
    · exact absurd rfl h0
    have e : ∀ h' : n + 1 - 1 < cfg0.N, (outsAt0 m c (n + 1 - 1) h').2 = rows m c ⟨n + 1, hn⟩ := fun _ =>
      (scratch_eq m c n (Nat.lt_of_succ_lt hn)).trans (rows_pred m c n hn h0)
    rw [outsAt0_B m c ⟨n + 1, hn⟩ h0]
    dsimp only
    rw [e]
    exact stored_B c _ _ _ _ _ _ _ _ _ _ _ _ _ _ _ _ y i hi0 hi1

end Cert.InProjIdeal.Rows

end
-- ==== Proof.InResult.lean ====
/- The in-projection kernel's result array over the extended reals. -/
module

public import proofs.«01_k».proof.Proof.InStores
public import Idealize.ShloMosaic.Lib.Claim

@[expose] public section

set_option maxRecDepth 16384

noncomputable section

namespace Cert.InProjIdeal.Rows

open Cert.InProjIdeal Cert.InProjIdeal.Gen
open Idealize.ShloMosaic Idealize.ShloMosaic.Pointwise Idealize.ShloMosaic.TcCoe Idealize.ShloMosaic.Tactic
open Idealize.SL.Sem

variable (m : (ℓ : Loc nD τ sig) → Buf (Elt Ideal) ℓ) (ρ : Dev nD → PrngReg)

/-- What the result array is shown to hold. -/
abbrev result (c : Dev nD) : Buf (Elt Ideal) ((c : Thread nD τ).loc main_v3) :=
  Layer.projArray (m ((c : Thread nD τ).loc main_arg0)) (m ((c : Thread nD τ).loc main_arg1)) (m ((c : Thread nD τ).loc main_arg2))

/-- An entry of the input block: the input at its token. -/
theorem x_read (c : Dev nD) (t : Fin cfg0.N) (r : Fin 1024) (k : Fin 2048) (T : Fin 8192) (hT : T.val = t.val / 5 * 1024 + r.val) :
    iblk m c 0 t (ix2 r k) = Layer.token (m ((c : Thread nD τ).loc main_arg0)) T k := by
  unfold Layer.token
  blk_point [iblk, V, idx t]

/-- An entry of the gain's block. -/
theorem g_read (c : Dev nD) (t : Fin cfg0.N) (k : Fin 2048) :
    iblk m c 1 t (ix2 0 k) = (m ((c : Thread nD τ).loc main_arg1) : FVec Ideal S1x2048 .f32) (ix2 0 k) := by
  blk_point [iblk, V, idx t]

/-- An entry of the weights' block. -/
theorem w_read (c : Dev nD) (t : Fin cfg0.N) (k : Fin 2048) (d : Fin 2048) (C : Fin 10240) (hC : C.val = t.val % 5 * 2048 + d.val) :
    iblk m c 2 t (ix2 k d) = (m ((c : Thread nD τ).loc main_arg2) : FVec Ideal S1x2048x10240 .f32) (ix3 0 k C) := by
  blk_point [iblk, V, idx t]
/-- One element of a point's product is the projection of its token at its column. -/
theorem point (c : Dev nD) (t : Fin cfg0.N) (r : Fin 1024) (d : Fin 2048) (q : Fin 80) (T : Fin 8192) (l : Fin 128)
    (hT : T.val = t.val / 5 * 1024 + r.val) (hC : q.val * 128 + l.val = t.val % 5 * 2048 + d.val) :
    k0_pay7 (F := Ideal) (rows m c t) (iblk m c 2 t) (ix2 r d)
      = Layer.proj (m ((c : Thread nD τ).loc main_arg0)) (m ((c : Thread nD τ).loc main_arg1)) (m ((c : Thread nD τ).loc main_arg2)) q T l := by
  refine (product_apply _ _ r d).trans (Finset.sum_congr (M := EReal) rfl fun k _ => ?_)
  refine congrArg₂ (fun a b : EReal => a * b) ((norm_apply _ _ r k).trans ?_) (w_read m c t k d _ hC)
  rw [g_read m c t k]
  exact congrArg (fun f => Layer.norm f _ k) (funext fun e => x_read m c t r e T hT)

/-- The result array after the run. -/
theorem final (c : Dev nD) : (dats m 0 c).arrAt 3 (cfgs 0).N = result m c := by
  refine (dats m 0 c).arrAt_eq_of_covers 3 _ (by decide +kernel) fun t hf y => ?_
  blk_simp
  rw [after0_3]
  have y0 : (y 0 : ℕ) < 16 := (y 0).isLt
  have y2 : (y 2 : ℕ) < 128 := (y 2).isLt
  obtain ⟨d, hd⟩ : ∃ d : Fin 2048, (d : ℕ) = (y 0 : ℕ) * 128 + (y 2 : ℕ) := ⟨⟨_, by omega⟩, rfl⟩
  refine (block_eq m c t y (ix2 (y 1) d) rfl hd).trans (point m c t _ _ _ _ _ ?_ ?_)
  all_goals (blk_simp [idx t] <;> try omega)

/-- The run, with the result array at the projection and the arguments unchanged. -/
theorem run_result : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks (F := Ideal) m ρ)

end Cert.InProjIdeal.Rows

end
-- ==== Proof.InSums.lean ====
/- The in-projection's host reference over the extended reals: its result array, element by element. -/
module

public import proofs.«01_k».proof.Proof.Gen.InRefIdeal.Run
public import proofs.«01_k».proof.Proof.Layer
public import Idealize.ShloMosaic.Lib.Pointwise
public import Idealize.ShloMosaic.Lib.ValueIdx
public import Idealize.ShloMosaic.PureOps.Ideal.Laws
public import Idealize.ShloMosaic.Lib.IdealHost

@[expose] public section

set_option maxRecDepth 16384

noncomputable section

namespace Cert.InRefIdeal.Sums

open Cert.InRefIdeal Cert.InRefIdeal.Gen
open Idealize.ShloMosaic Idealize.ShloMosaic.Pointwise Idealize.ShloMosaic.TcCoe Idealize.ShloMosaic.Tactic
open Idealize.SL.Sem

variable (m : (ℓ : Loc nD τ sig) → Buf (Elt Ideal) ℓ) (ρ : Dev nD → PrngReg)

/-- The normed tokens. -/
theorem norm_apply (x : FVec Ideal S2x4096x2048 .f32) (g : FVec Ideal S1x2048 .f32) (b : Fin 2) (s : Fin 4096) (d : Fin 2048) :
    (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
      (broadcastInDim S2x4096x2048 ![0, 1, 2] bcast_S1x1x2048_S2x4096x2048_0_1_2 (broadcastInDim S1x1x2048 ![2] bcast_S2048_S1x1x2048_2 (shapeCast S2048 g shapeCasts_S1x2048_S2048))) : FVec Ideal S2x4096x2048 .f32) (ix3 b s d)
      = Layer.norm (fun k => x (ix3 b s k)) (g (ix2 0 d)) d := by
  unfold Layer.norm
  pointwise

/-- The projection of any array, its columns laid out by groups of 128. -/
theorem proj_apply (h : FVec Ideal S2x4096x2048 .f32) (w : FVec Ideal S1x2048x10240 .f32) (q : Fin 80) (t : Fin 8192) (l : Fin 128) :
    (truncf .bf16 (transpose S80x8192x128 [1, 0, 2] (shapeCast S8192x80x128 (Host.dotGeneral dot_S2x4096x2048_S2048x10240_S2x4096x10240_2_0_01_1_n_n none h
      (shapeCast S2048x10240 w shapeCasts_S1x2048x10240_S2048x10240)) shapeCasts_S2x4096x10240_S8192x80x128) transposes_S8192x80x128_S80x8192x128_1_0_2) bitsLt_bf16_f32
      : FVec Ideal S80x8192x128 .bf16) (ix3 q t l)
      = ∑ k : Fin 2048, h (ix3 ⟨t.val / 4096, by omega⟩ ⟨t.val % 4096, by omega⟩ k) * w (ix3 0 k ⟨q.val * 128 + l.val, by omega⟩) := by
  pointwise

/-- What the result array is shown to hold. -/
abbrev result (c : Dev nD) : Buf (Elt Ideal) ((c : Thread nD τ).loc main_v18) :=
  Layer.projArray (m ((c : Thread nD τ).loc main_arg0)) (m ((c : Thread nD τ).loc main_arg1)) (m ((c : Thread nD τ).loc main_arg2))

/-- The run, with the result array at the projection and the arguments unchanged. -/
theorem run_result : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run (F := Ideal) m ρ)
  funext i
  change S80x8192x128.Idx at i
  idx_vars i
  refine (proj_apply _ _ i0 i1 i2).trans ?_
  exact Finset.sum_congr (M := EReal) rfl fun k _ => congrArg (fun a : EReal => a * _) (norm_apply _ _ _ _ k)

end Cert.InRefIdeal.Sums

end
-- ==== Proof.InClaims.lean ====
/- The claims about the in-projection. -/
module

public import proofs.«01_k».proof.Defs
public import proofs.«01_k».proof.Proof.Gen.InProj
public import proofs.«01_k».proof.Proof.InResult
public import proofs.«01_k».proof.Proof.InSums
public import Idealize.ShloMosaic.Lib.Quiescent
public import Idealize.ShloMosaic.Lib.Claim

@[expose] public section

noncomputable section

namespace Cert.InClaims

open Idealize.ShloMosaic Idealize.ShloMosaic.TcCoe Idealize.ShloMosaic.Tactic Idealize.SL.Sem

/-- The kernel's frame: its text is the idealization's own, whose frame holds over any floats. -/
theorem frame_kernel : Cert.quiescent_InProj := fun m ρ _ => by
  have h := Cert.InProjIdeal.Gen.frame (F := Bits) m ρ
  exact cast (by sl_kernel_rfl) h

/-- The idealization's frame. -/
theorem frame_ideal : Cert.quiescent_InProjIdeal := fun m ρ _ => Cert.InProjIdeal.Gen.frame m ρ

/-- The host reference's frame. -/
theorem frame_ref : Cert.quiescent_InRefIdeal := fun m ρ _ =>
  (θ_run Cert.InRefIdeal.defs _ _).mono (fun _ h => ⟨fun c => (h c).2, sem_eq_zero_of_no_sems rfl _⟩) (Cert.InRefIdeal.Value.run m ρ)

/-- Over the extended reals the kernel and the host reference compute the same projection. -/
theorem same_projection : Cert.algebraic_InProjIdeal_InRefIdeal := fun m ρ m' ρ' _ hagree =>
  ⟨fun c => Cert.InProjIdeal.Rows.result m c, Cert.InProjIdeal.Rows.run_result m ρ,
    (θ_run Cert.InRefIdeal.defs _ _).mono (fun _ h c => ⟨(h c).1.trans (by
      unfold Cert.InProjIdeal.Rows.result Cert.InRefIdeal.Sums.result
      rw [(hagree c).1, (hagree c).2.1, (hagree c).2.2]), (h c).2⟩) (Cert.InRefIdeal.Sums.run_result m' ρ')⟩

end Cert.InClaims

end
-- ==== Proof.OutRows.lean ====
/- What the out-projection's pieces compute over the extended reals. -/
module

public import Idealize.ShloMosaic.Lib.ValueLayout
public import proofs.«01_k».proof.Proof.Gen.OutProjIdeal.Frame
public import proofs.«01_k».proof.Proof.Layer
public import Idealize.ShloMosaic.Lib.Pipeline.ValueKit
public import Idealize.ShloMosaic.Lib.Pointwise
public import Idealize.ShloMosaic.Lib.ValueIdx
public import Idealize.ShloMosaic.PureOps.Ideal.Laws
public import Idealize.ShloMosaic.Lib.IdealHost

@[expose] public section

set_option maxRecDepth 16384

noncomputable section

namespace Cert.OutProjIdeal.Rows

open Cert.OutProjIdeal Cert.OutProjIdeal.Gen Idealize.ShloMosaic Idealize.ShloMosaic.Pointwise

/-- Attention A's heads through its weights. -/
theorem a_apply (x0 : Vec Ideal S8x512x128 .bf16) (x5 : Vec Ideal S1024x2048 .bf16) (r : Fin 512) (d : Fin 2048) :
    k0_pay3 (F := Ideal) (View.ld x0 r0_0) (View.ld x0 r0_1) (View.ld x0 r0_2) (View.ld x0 r0_3) (View.ld x0 r0_4) (View.ld x0 r0_5) (View.ld x0 r0_6)
        (View.ld x0 r0_7) (View.ld x5 r0_8) (ix2 r d)
      = ∑ k : Fin 1024, x0 (ix3 ⟨k.val / 128, by omega⟩ r ⟨k.val % 128, by omega⟩) * x5 (ix2 k d) := by
  pointwise [k0_pay3]
  blk_point

variable (x0 : Vec Ideal S8x512x128 .bf16) (x1 : Vec Ideal S4x512x128 .bf16) (x2 x3 : Vec Ideal S16x512x128 .bf16) (x4 : Vec Ideal S512x2048 .f32)
  (x5 : Vec Ideal S1024x2048 .bf16) (x6 : Vec Ideal S512x2048 .bf16) (x7 : Vec Ideal S2048x2048 .bf16) (x8 : Vec Ideal S1x2048 .f32)

/-- Attention B's heads through its weights. -/
theorem b_apply (r : Fin 512) (d : Fin 2048) :
    k0_pay22 (F := Ideal) x0 x1 x2 x3 x4 x5 x6 x7 x8 (ix2 r d)
      = ∑ k : Fin 512, x1 (ix3 ⟨k.val / 128, by omega⟩ r ⟨k.val % 128, by omega⟩) * x6 (ix2 k d) := by
  pointwise [k0_pay22, k0_pay6, k0_pay4, k0_pay5]
  blk_point

/-- Tile `n` of a gate's block fits in it. -/
theorem tile_inb (n : Fin 16) : ∀ a, (![n.val, 0, 0] : Fin 3 → Nat) a + S1x512x128.size a ≤ S16x512x128.size a := by
  intro a
  fin_cases a
  · show n.val + 1 ≤ 16
    omega
  · show 0 + 512 ≤ 512
    omega
  · show 0 + 128 ≤ 128
    omega

/-- Tile `n` of a gate's block. -/
abbrev tile (z : Vec Ideal S16x512x128 .bf16) (n : Fin 16) : FVec Ideal S512x128 .bf16 :=
  shapeCast S512x128 (View.ld z (Rect.unit (s := S16x512x128) ![n.val, 0, 0] S1x512x128.size (tile_inb n))) shapeCasts_S1x512x128_S512x128

/-- An entry of a tile. -/
theorem tile_apply (z : Vec Ideal S16x512x128 .bf16) (n : Fin 16) (r : Fin 512) (l : Fin 128) : tile z n (ix2 r l) = z (ix3 n r l) := by
  rw [show tile z n (ix2 r l) = _ from ValueIdx.shapeCast_1ab_ab_apply _ _ r l]
  refine View.ld_unit_apply_of z _ _ _ _ _ fun a => ?_
  fin_cases a
  · show n.val = n.val + 0
    omega
  · show r.val = 0 + r.val
    omega
  · show l.val = 0 + l.val
    omega

/-- The tiles of a gate's block side by side. -/
theorem tiles_apply (z : Vec Ideal S16x512x128 .bf16) (h) (r : Fin 512) (d : Fin 2048) :
    concatenate S512x2048 1 (List.ofFn fun n : Fin 16 => (⟨S512x128, tile z n⟩ : (s : Shape) × (s.Idx → Ideal .bf16))) h (ix2 r d)
      = z (ix3 ⟨d.val / 128, by omega⟩ r ⟨d.val % 128, by omega⟩) := by
  rw [concatenate_ofFn_apply (t := S512x2048) (s₁ := S512x128) 1 (tile z) h rfl 128 rfl (ix2 r d) ⟨d.val / 128, by omega⟩ rfl
    (ix2 r ⟨d.val % 128, by omega⟩) rfl (by
      intro b hb
      fin_cases b
      · rfl
      · exact absurd rfl hb)]
  exact tile_apply z _ r _

/-- Attention B's gate. -/
theorem gb_apply (r : Fin 512) (d : Fin 2048) :
    k0_pay24 (F := Ideal) x0 x1 x2 x3 x4 x5 x6 x7 x8 (ix2 r d) = x3 (ix3 ⟨d.val / 128, by omega⟩ r ⟨d.val % 128, by omega⟩) :=
  tiles_apply x3
    concatenates_S512x128_S512x128_S512x128_S512x128_S512x128_S512x128_S512x128_S512x128_S512x128_S512x128_S512x128_S512x128_S512x128_S512x128_S512x128_S512x128_S512x2048_d1 r d

/-- Attention A through its gate. -/
theorem ga_apply (r : Fin 512) (d : Fin 2048) :
    k0_pay23 (F := Ideal) x0 x1 x2 x3 x4 x5 x6 x7 x8 (ix2 r d)
      = Ideal.logistic (x2 (ix3 ⟨d.val / 128, by omega⟩ r ⟨d.val % 128, by omega⟩))
        * ∑ k : Fin 1024, x0 (ix3 ⟨k.val / 128, by omega⟩ r ⟨k.val % 128, by omega⟩) * x5 (ix2 k d) :=
  congrArg₂ (fun a b : EReal => Ideal.logistic a * b) (tiles_apply x2
    concatenates_S512x128_S512x128_S512x128_S512x128_S512x128_S512x128_S512x128_S512x128_S512x128_S512x128_S512x128_S512x128_S512x128_S512x128_S512x128_S512x128_S512x2048_d1 r d) (a_apply x0 x5 r d)

/-- The residual of a block. -/
theorem x1_apply (a b : FVec Ideal S512x2048 .f32) (g : FVec Ideal S512x2048 .bf16) (x : Vec Ideal S512x2048 .f32) (w : Vec Ideal S2048x2048 .bf16)
    (r : Fin 512) (d : Fin 2048) :
    k0_pay1 (F := Ideal) b a g x w (ix2 r d) = x (ix2 r d) + ∑ k : Fin 2048, (a (ix2 r k) + Ideal.logistic (g (ix2 r k)) * b (ix2 r k)) * w (ix2 k d) := by
  pointwise [k0_pay1]

/-- Its norm. -/
theorem h2_apply (a b : FVec Ideal S512x2048 .f32) (g : FVec Ideal S512x2048 .bf16) (x : Vec Ideal S512x2048 .f32) (w : Vec Ideal S2048x2048 .bf16)
    (n : Vec Ideal S1x2048 .f32) (r : Fin 512) (d : Fin 2048) :
    k0_pay2 (F := Ideal) a b g x w n (ix2 r d) = Layer.norm (fun k => k0_pay1 (F := Ideal) a b g x w (ix2 r k)) (n (ix2 0 d)) d := by
  unfold k0_pay2 Layer.norm
  generalize k0_pay1 (F := Ideal) a b g x w = X
  pointwise

end Cert.OutProjIdeal.Rows

end
-- ==== Proof.OutResult.lean ====
/- The out-projection kernel's two result arrays over the extended reals. -/
module

public import proofs.«01_k».proof.Proof.OutRows
public import proofs.«01_k».proof.Proof.Gen.OutProjIdeal.Value
public import Idealize.ShloMosaic.Lib.Pipeline.ValueKit
public import Idealize.ShloMosaic.Lib.Claim

@[expose] public section

set_option maxRecDepth 16384

noncomputable section

namespace Cert.OutProjIdeal.Rows

open Cert.OutProjIdeal Cert.OutProjIdeal.Gen
open Idealize.ShloMosaic Idealize.ShloMosaic.Pointwise Idealize.ShloMosaic.TcCoe Idealize.ShloMosaic.Tactic
open Idealize.SL.Sem

section Stores

variable (x0 : Vec Ideal S8x512x128 .bf16) (x1 : Vec Ideal S4x512x128 .bf16) (x2 x3 : Vec Ideal S16x512x128 .bf16) (x4 : Vec Ideal S512x2048 .f32)
  (x5 : Vec Ideal S1024x2048 .bf16) (x6 : Vec Ideal S512x2048 .bf16) (x7 : Vec Ideal S2048x2048 .bf16) (x8 : Vec Ideal S1x2048 .f32)

/-- The first store fills its whole block with the residual. -/
theorem stored9 : out0_9 x0 x1 x2 x3 x4 x5 x6 x7 x8
    = k0_pay1 (F := Ideal) (k0_pay22 x0 x1 x2 x3 x4 x5 x6 x7 x8) (k0_pay23 x0 x1 x2 x3 x4 x5 x6 x7 x8) (k0_pay24 x0 x1 x2 x3 x4 x5 x6 x7 x8) x4 x7 := by
  unfold out0_9
  frame_out

/-- The second store fills its whole block with the residual's norm. -/
theorem stored10 : out0_10 x0 x1 x2 x3 x4 x5 x6 x7 x8
    = k0_pay2 (F := Ideal) (k0_pay22 x0 x1 x2 x3 x4 x5 x6 x7 x8) (k0_pay23 x0 x1 x2 x3 x4 x5 x6 x7 x8) (k0_pay24 x0 x1 x2 x3 x4 x5 x6 x7 x8) x4 x7 x8 := by
  unfold out0_10
  frame_out

end Stores

variable (m : (ℓ : Loc nD τ sig) → Buf (Elt Ideal) ℓ) (ρ : Dev nD → PrngReg)

/-- What the residual's array is shown to hold. -/
abbrev residual (c : Dev nD) : Buf (Elt Ideal) ((c : Thread nD τ).loc main_v7_0) :=
  Layer.residualArray (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- What the normed residual's array is shown to hold. -/
abbrev normed (c : Dev nD) : Buf (Elt Ideal) ((c : Thread nD τ).loc main_v7_1) :=
  Layer.normedArray (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- Where each point stands: row block `t`; the gates' slabs begin at 48 and 64. -/
theorem idx : ∀ t : Fin cfg0.N, win0_0.index t = ![0, t.val, 0] ∧ win0_1.index t = ![0, t.val, 0] ∧ win0_2.index t = ![3, t.val, 0]
    ∧ win0_3.index t = ![4, t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

section Reads

variable (c : Dev nD) (t : Fin cfg0.N) (r : Fin 512) (T : Fin 8192) (hT : T.val = t.val * 512 + r.val)
include hT

/-- An entry of attention A's block. -/
theorem oa_read (q : Fin 8) (l : Fin 128) :
    iblk m c 0 t (ix3 q r l) = (m ((c : Thread nD τ).loc main_arg0) : FVec Ideal S8x8192x128 .bf16) (ix3 q T l) := by
  blk_point [iblk, V, idx t]

/-- An entry of attention B's block. -/
theorem ob_read (q : Fin 4) (l : Fin 128) :
    iblk m c 1 t (ix3 q r l) = (m ((c : Thread nD τ).loc main_arg1) : FVec Ideal S4x8192x128 .bf16) (ix3 q T l) := by
  blk_point [iblk, V, idx t]

/-- An entry of attention A's gate. -/
theorem ga_read (q : Fin 16) (l L : Fin 128) (Q : Fin 80) (hQ : Q.val = 48 + q.val) (hL : L.val = l.val) :
    iblk m c 2 t (ix3 q r l) = (m ((c : Thread nD τ).loc main_arg2) : FVec Ideal S80x8192x128 .bf16) (ix3 Q T L) := by
  blk_point [iblk, V, idx t]

/-- An entry of attention B's gate. -/
theorem gb_read (q : Fin 16) (l L : Fin 128) (Q : Fin 80) (hQ : Q.val = 64 + q.val) (hL : L.val = l.val) :
    iblk m c 3 t (ix3 q r l) = (m ((c : Thread nD τ).loc main_arg2) : FVec Ideal S80x8192x128 .bf16) (ix3 Q T L) := by
  blk_point [iblk, V, idx t]

/-- An entry of the input's block. -/
theorem x_read (d : Fin 2048) : iblk m c 4 t (ix2 r d) = Layer.token (m ((c : Thread nD τ).loc main_arg3)) T d := by
  unfold Layer.token
  blk_point [iblk, V, idx t]

end Reads

section Weights

variable (c : Dev nD) (t : Fin cfg0.N) (d : Fin 2048)

/-- An entry of attention A's weights. -/
theorem wa_read (k : Fin 1024) : iblk m c 5 t (ix2 k d) = (m ((c : Thread nD τ).loc main_arg4) : FVec Ideal S1x1024x2048 .f32) (ix3 0 k d) := by
  blk_point [iblk, V, idx t]

/-- An entry of attention B's weights. -/
theorem wb_read (k : Fin 512) : iblk m c 6 t (ix2 k d) = (m ((c : Thread nD τ).loc main_arg5) : FVec Ideal S1x512x2048 .f32) (ix3 0 k d) := by
  blk_point [iblk, V, idx t]

/-- An entry of the out-projection's weights. -/
theorem wo_read (k : Fin 2048) : iblk m c 7 t (ix2 k d) = (m ((c : Thread nD τ).loc main_arg6) : FVec Ideal S1x2048x2048 .f32) (ix3 0 k d) := by
  blk_point [iblk, V, idx t]

/-- An entry of the gain. -/
theorem g_read : iblk m c 8 t (ix2 0 d) = (m ((c : Thread nD τ).loc main_arg7) : FVec Ideal S1x2048 .f32) (ix2 0 d) := by
  blk_point [iblk, V, idx t]

end Weights

/-- One element of a point's residual. -/
theorem point (c : Dev nD) (t : Fin cfg0.N) (r : Fin 512) (T : Fin 8192) (hT : T.val = t.val * 512 + r.val) (d : Fin 2048) :
    k0_pay1 (F := Ideal) (k0_pay22 (iblk m c 0 t) (iblk m c 1 t) (iblk m c 2 t) (iblk m c 3 t) (iblk m c 4 t) (iblk m c 5 t) (iblk m c 6 t) (iblk m c 7 t) (iblk m c 8 t))
      (k0_pay23 (iblk m c 0 t) (iblk m c 1 t) (iblk m c 2 t) (iblk m c 3 t) (iblk m c 4 t) (iblk m c 5 t) (iblk m c 6 t) (iblk m c 7 t) (iblk m c 8 t))
      (k0_pay24 (iblk m c 0 t) (iblk m c 1 t) (iblk m c 2 t) (iblk m c 3 t) (iblk m c 4 t) (iblk m c 5 t) (iblk m c 6 t) (iblk m c 7 t) (iblk m c 8 t))
      (iblk m c 4 t) (iblk m c 7 t) (ix2 r d)
      = Layer.residual (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) T d := by
  refine (x1_apply _ _ _ _ _ r d).trans ?_
  refine congrArg₂ (fun a b : EReal => a + b) (x_read m c t r T hT d) (Finset.sum_congr (M := EReal) rfl fun k _ => ?_)
  refine congrArg₂ (fun a b : EReal => a * b) ?_ (wo_read m c t d k)
  refine congrArg₂ (fun a b : EReal => a + b) ?_ ?_
  · refine (ga_apply _ _ _ _ _ _ _ _ _ r k).trans ?_
    refine congrArg₂ (fun a b : EReal => Ideal.logistic a * b) (ga_read m c t r T hT ⟨k.val / 128, by omega⟩ ⟨k.val % 128, by omega⟩
      ⟨(6144 + k.val) % 128, by omega⟩ ⟨(6144 + k.val) / 128, by omega⟩ (by show (6144 + k.val) / 128 = 48 + k.val / 128; omega)
      (by show (6144 + k.val) % 128 = k.val % 128; omega)) ?_
    exact Finset.sum_congr (M := EReal) rfl fun e _ => congrArg₂ (fun a b : EReal => a * b) (oa_read m c t r T hT _ _) (wa_read m c t k e)
  · refine congrArg₂ (fun a b : EReal => Ideal.logistic a * b) ((gb_apply _ _ _ _ _ _ _ _ _ r k).trans
      (gb_read m c t r T hT ⟨k.val / 128, by omega⟩ ⟨k.val % 128, by omega⟩
      ⟨(8192 + k.val) % 128, by omega⟩ ⟨(8192 + k.val) / 128, by omega⟩ (by show (8192 + k.val) / 128 = 64 + k.val / 128; omega)
      (by show (8192 + k.val) % 128 = k.val % 128; omega))) ?_
    refine (b_apply _ _ _ _ _ _ _ _ _ r k).trans ?_
    exact Finset.sum_congr (M := EReal) rfl fun e _ => congrArg₂ (fun a b : EReal => a * b) (ob_read m c t r T hT _ _) (wb_read m c t k e)

/-- The residual of a point's block, at any index. -/
theorem block9 (c : Dev nD) (t : Fin cfg0.N) (y : S512x2048.Idx) (T : Fin 8192) (hT : T.val = t.val * 512 + (y 0).val) :
    k0_pay1 (F := Ideal) (k0_pay22 (iblk m c 0 t) (iblk m c 1 t) (iblk m c 2 t) (iblk m c 3 t) (iblk m c 4 t) (iblk m c 5 t) (iblk m c 6 t) (iblk m c 7 t) (iblk m c 8 t))
      (k0_pay23 (iblk m c 0 t) (iblk m c 1 t) (iblk m c 2 t) (iblk m c 3 t) (iblk m c 4 t) (iblk m c 5 t) (iblk m c 6 t) (iblk m c 7 t) (iblk m c 8 t))
      (k0_pay24 (iblk m c 0 t) (iblk m c 1 t) (iblk m c 2 t) (iblk m c 3 t) (iblk m c 4 t) (iblk m c 5 t) (iblk m c 6 t) (iblk m c 7 t) (iblk m c 8 t))
      (iblk m c 4 t) (iblk m c 7 t) y
      = residual m c (ix2 T (y 1)) := by
  idx_vars y
  exact point m c t y0 T hT y1

/-- The residual's norm of a point's block, at any index. -/
theorem block10 (c : Dev nD) (t : Fin cfg0.N) (y : S512x2048.Idx) (T : Fin 8192) (hT : T.val = t.val * 512 + (y 0).val) :
    k0_pay2 (F := Ideal) (k0_pay22 (iblk m c 0 t) (iblk m c 1 t) (iblk m c 2 t) (iblk m c 3 t) (iblk m c 4 t) (iblk m c 5 t) (iblk m c 6 t) (iblk m c 7 t) (iblk m c 8 t))
      (k0_pay23 (iblk m c 0 t) (iblk m c 1 t) (iblk m c 2 t) (iblk m c 3 t) (iblk m c 4 t) (iblk m c 5 t) (iblk m c 6 t) (iblk m c 7 t) (iblk m c 8 t))
      (k0_pay24 (iblk m c 0 t) (iblk m c 1 t) (iblk m c 2 t) (iblk m c 3 t) (iblk m c 4 t) (iblk m c 5 t) (iblk m c 6 t) (iblk m c 7 t) (iblk m c 8 t))
      (iblk m c 4 t) (iblk m c 7 t) (iblk m c 8 t) y
      = normed m c (ix2 T (y 1)) := by
  idx_vars y
  refine (h2_apply _ _ _ _ _ _ y0 y1).trans ?_
  rw [g_read m c t y1]
  exact congrArg (fun f => Layer.norm f _ y1) (funext fun k => point m c t y0 T hT k)

/-- The residual's array after the run. -/
theorem final9 (c : Dev nD) : (dats m 0 c).arrAt 9 (cfgs 0).N = residual m c := by
  refine (dats m 0 c).arrAt_eq_of_covers 9 _ (by decide +kernel) fun t hf y => ?_
  blk_simp
  rw [after0_9, stored9]
  have hy : (y 0 : ℕ) < 512 := (y 0).isLt
  have ht : (t : ℕ) < 16 := t.isLt
  obtain ⟨T, hT⟩ : ∃ T : Fin 8192, (T : ℕ) = (t : ℕ) * 512 + (y 0 : ℕ) := ⟨⟨_, by omega⟩, rfl⟩
  have e : (win0_9.blk t).view.emb y = (ix2 T (y 1) : S8192x2048.Idx) := by
    funext a
    apply Fin.ext
    fin_cases a
    · blk_simp [idx t]
      exact hT.symm
    · blk_simp [idx t]
      rfl
  rw [e]
  exact block9 m c t y T hT

/-- The normed residual's array after the run. -/
theorem final10 (c : Dev nD) : (dats m 0 c).arrAt 10 (cfgs 0).N = normed m c := by
  refine (dats m 0 c).arrAt_eq_of_covers 10 _ (by decide +kernel) fun t hf y => ?_
  blk_simp
  rw [after0_10, stored10]
  have hy : (y 0 : ℕ) < 512 := (y 0).isLt
  have ht : (t : ℕ) < 16 := t.isLt
  obtain ⟨T, hT⟩ : ∃ T : Fin 8192, (T : ℕ) = (t : ℕ) * 512 + (y 0 : ℕ) := ⟨⟨_, by omega⟩, rfl⟩
  have e : (win0_10.blk t).view.emb y = (ix2 T (y 1) : S8192x2048.Idx) := by
    funext a
    apply Fin.ext
    fin_cases a
    · blk_simp [idx t]
      exact hT.symm
    · blk_simp [idx t]
      rfl
  rw [e]
  exact block10 m c t y T hT

/-- The run, with the result arrays at the residual and its norm and the arguments unchanged. -/
theorem run_result : θ_run defs (onTc (τ := τ) (main (F := Ideal))) ⟨m, fun _ => 0, ρ⟩ fun r => ∀ c : Dev nD,
      r.2.mem ((c.tc : Thread nD τ).loc main_v7_0) = residual m c
      ∧ r.2.mem ((c.tc : Thread nD τ).loc main_v7_1) = normed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (final9 m c), (h c).2.1.trans (final10 m c), (h c).2.2⟩) (Value.run_blocks (F := Ideal) m ρ)

end Cert.OutProjIdeal.Rows

end
-- ==== Proof.OutSums.lean ====
/- The out-projection's host reference over the extended reals: its two result arrays, element by element. -/
module

public import proofs.«01_k».proof.Proof.Gen.OutRefIdeal.Run
public import proofs.«01_k».proof.Proof.Layer
public import Idealize.ShloMosaic.Lib.Pointwise
public import Idealize.ShloMosaic.Lib.ValueIdx
public import Idealize.ShloMosaic.PureOps.Ideal.Laws
public import Idealize.ShloMosaic.Lib.IdealHost

@[expose] public section

set_option maxRecDepth 16384

noncomputable section

namespace Cert.OutRefIdeal.Sums

open Cert.OutRefIdeal Cert.OutRefIdeal.Gen
open Idealize.ShloMosaic Idealize.ShloMosaic.Pointwise Idealize.ShloMosaic.TcCoe Idealize.ShloMosaic.Tactic
open Idealize.SL.Sem

variable (m : (ℓ : Loc nD τ sig) → Buf (Elt Ideal) ℓ) (ρ : Dev nD → PrngReg)

/-- The two attentions through their gates. -/
theorem merged_apply (oa : FVec Ideal S8x8192x128 .bf16) (ob : FVec Ideal S4x8192x128 .bf16) (p : FVec Ideal S80x8192x128 .bf16)
    (wa : FVec Ideal S1x1024x2048 .f32) (wb : FVec Ideal S1x512x2048 .f32) (t : Fin 8192) (d : Fin 2048) :
    (addf (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 6144] (shapeCast S8192x10240 (transpose S8192x80x128 [1, 0, 2] (extf .f32 p bitsLt_bf16_f32) transposes_S80x8192x128_S8192x80x128_1_0_2) shapeCasts_S8192x80x128_S8192x10240) slices_S8192x10240_S8192x2048_0_6144))))) (Host.dotGeneral dot_S8192x1024_S1024x2048_S8192x2048_1_0_0_1_n_n none (shapeCast S8192x1024 (transpose S8192x8x128 [1, 0, 2] (extf .f32 oa bitsLt_bf16_f32) transposes_S8x8192x128_S8192x8x128_1_0_2) shapeCasts_S8192x8x128_S8192x1024) (shapeCast S1024x2048 wa shapeCasts_S1x1024x2048_S1024x2048))) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 8192] (shapeCast S8192x10240 (transpose S8192x80x128 [1, 0, 2] (extf .f32 p bitsLt_bf16_f32) transposes_S80x8192x128_S8192x80x128_1_0_2) shapeCasts_S8192x80x128_S8192x10240) slices_S8192x10240_S8192x2048_0_8192))))) (Host.dotGeneral dot_S8192x512_S512x2048_S8192x2048_1_0_0_1_n_n none (shapeCast S8192x512 (transpose S8192x4x128 [1, 0, 2] (extf .f32 ob bitsLt_bf16_f32) transposes_S4x8192x128_S8192x4x128_1_0_2) shapeCasts_S8192x4x128_S8192x512) (shapeCast S512x2048 wb shapeCasts_S1x512x2048_S512x2048))) : FVec Ideal S8192x2048 .f32) (ix2 t d)
      = Layer.merged oa ob p wa wb t d := by
  unfold Layer.merged Layer.gateA Layer.gateB Layer.attnA Layer.attnB Ideal.logistic
  pointwise

/-- The residual over any merged array. -/
theorem residual_apply (X : FVec Ideal S8192x2048 .f32) (x : FVec Ideal S2x4096x2048 .f32) (wo : FVec Ideal S1x2048x2048 .f32) (t : Fin 8192) (d : Fin 2048) :
    (addf (shapeCast S8192x2048 x shapeCasts_S2x4096x2048_S8192x2048) (Host.dotGeneral dot_S8192x2048_S2048x2048_S8192x2048_1_0_0_1_n_n none (X) (shapeCast S2048x2048 wo shapeCasts_S1x2048x2048_S2048x2048)) : FVec Ideal S8192x2048 .f32) (ix2 t d)
      = Layer.token x t d + ∑ k : Fin 2048, X (ix2 t k) * wo (ix3 0 k d) := by
  unfold Layer.token
  pointwise

/-- The norm of any array's rows. -/
theorem norm_apply (X : FVec Ideal S8192x2048 .f32) (g : FVec Ideal S1x2048 .f32) (t : Fin 8192) (d : Fin 2048) :
    (truncf .bf16 (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast S2048 g shapeCasts_S1x2048_S2048)))) bitsLt_bf16_f32 : FVec Ideal S8192x2048 .bf16) (ix2 t d)
      = Layer.norm (fun k => X (ix2 t k)) (g (ix2 0 d)) d := by
  unfold Layer.norm
  pointwise

/-- What the residual's array is shown to hold. -/
abbrev residual (c : Dev nD) : Buf (Elt Ideal) ((c : Thread nD τ).loc main_v33) :=
  Layer.residualArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- What the normed residual's array is shown to hold. -/
abbrev normed (c : Dev nD) : Buf (Elt Ideal) ((c : Thread nD τ).loc main_v48) :=
  Layer.normedArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7))

/-- The residual's term, element by element. -/
theorem residual_term (oa : FVec Ideal S8x8192x128 .bf16) (ob : FVec Ideal S4x8192x128 .bf16) (p : FVec Ideal S80x8192x128 .bf16) (x : FVec Ideal S2x4096x2048 .f32)
    (wa : FVec Ideal S1x1024x2048 .f32) (wb : FVec Ideal S1x512x2048 .f32) (wo : FVec Ideal S1x2048x2048 .f32) (t : Fin 8192) (d : Fin 2048) :
    (addf (shapeCast S8192x2048 x shapeCasts_S2x4096x2048_S8192x2048) (Host.dotGeneral dot_S8192x2048_S2048x2048_S8192x2048_1_0_0_1_n_n none (addf (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 6144] (shapeCast S8192x10240 (transpose S8192x80x128 [1, 0, 2] (extf .f32 p bitsLt_bf16_f32) transposes_S80x8192x128_S8192x80x128_1_0_2) shapeCasts_S8192x80x128_S8192x10240) slices_S8192x10240_S8192x2048_0_6144))))) (Host.dotGeneral dot_S8192x1024_S1024x2048_S8192x2048_1_0_0_1_n_n none (shapeCast S8192x1024 (transpose S8192x8x128 [1, 0, 2] (extf .f32 oa bitsLt_bf16_f32) transposes_S8x8192x128_S8192x8x128_1_0_2) shapeCasts_S8192x8x128_S8192x1024) (shapeCast S1024x2048 wa shapeCasts_S1x1024x2048_S1024x2048))) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 8192] (shapeCast S8192x10240 (transpose S8192x80x128 [1, 0, 2] (extf .f32 p bitsLt_bf16_f32) transposes_S80x8192x128_S8192x80x128_1_0_2) shapeCasts_S8192x80x128_S8192x10240) slices_S8192x10240_S8192x2048_0_8192))))) (Host.dotGeneral dot_S8192x512_S512x2048_S8192x2048_1_0_0_1_n_n none (shapeCast S8192x512 (transpose S8192x4x128 [1, 0, 2] (extf .f32 ob bitsLt_bf16_f32) transposes_S4x8192x128_S8192x4x128_1_0_2) shapeCasts_S8192x4x128_S8192x512) (shapeCast S512x2048 wb shapeCasts_S1x512x2048_S512x2048)))) (shapeCast S2048x2048 wo shapeCasts_S1x2048x2048_S2048x2048)) : FVec Ideal S8192x2048 .f32) (ix2 t d)
      = Layer.residual oa ob p x wa wb wo t d :=
  (residual_apply _ x wo t d).trans (congrArg (fun a : EReal => Layer.token x t d + a)
    (Finset.sum_congr (M := EReal) rfl fun k _ => congrArg (fun a : EReal => a * _) (merged_apply oa ob p wa wb t k)))

/-- The run, with the result arrays at the residual and its norm and the arguments unchanged. -/
theorem run_result : θ_run defs (onTc (τ := τ) (main (F := Ideal))) ⟨m, fun _ => 0, ρ⟩ fun r => ∀ c : Dev nD,
      r.2.mem ((c.tc : Thread nD τ).loc main_v33) = residual m c
      ∧ r.2.mem ((c.tc : Thread nD τ).loc main_v48) = normed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ⟨(h c).1.trans ?_, (h c).2.1.trans ?_, (h c).2.2⟩) (Value.run (F := Ideal) m ρ)
  · funext i
    change S8192x2048.Idx at i
    idx_vars i
    exact residual_term _ _ _ _ _ _ _ i0 i1
  · funext i
    change S8192x2048.Idx at i
    idx_vars i
    unfold Value.res_main_v48
    refine (norm_apply _ _ i0 i1).trans ?_
    exact congrArg (fun f => Layer.norm f _ i1) (funext fun k => residual_term _ _ _ _ _ _ _ i0 k)

end Cert.OutRefIdeal.Sums

end
-- ==== Proof.OutClaims.lean ====
/- The claims about the out-projection. -/
module

public import proofs.«01_k».proof.Defs
public import proofs.«01_k».proof.Proof.Gen.OutProj
public import proofs.«01_k».proof.Proof.OutResult
public import proofs.«01_k».proof.Proof.OutSums
public import Idealize.ShloMosaic.Lib.Quiescent
public import Idealize.ShloMosaic.Lib.Claim

@[expose] public section

noncomputable section

namespace Cert.OutClaims

open Idealize.ShloMosaic Idealize.ShloMosaic.TcCoe Idealize.ShloMosaic.Tactic Idealize.SL.Sem

/-- The kernel's frame: its text is the idealization's own, whose frame holds over any floats. -/
theorem frame_kernel : Cert.quiescent_OutProj := fun m ρ _ => by
  have h := Cert.OutProjIdeal.Gen.frame (F := Bits) m ρ
  exact cast (by sl_kernel_rfl) h

/-- The idealization's frame. -/
theorem frame_ideal : Cert.quiescent_OutProjIdeal := fun m ρ _ => Cert.OutProjIdeal.Gen.frame m ρ

/-- The host reference's frame. -/
theorem frame_ref : Cert.quiescent_OutRefIdeal := fun m ρ _ =>
  (θ_run Cert.OutRefIdeal.defs _ _).mono (fun _ h => ⟨fun c => (h c).2.2, sem_eq_zero_of_no_sems rfl _⟩) (Cert.OutRefIdeal.Value.run m ρ)

/-- Over the extended reals the kernel and the host reference compute the same residual and the same norm of it. -/
theorem same_results : Cert.algebraic_OutProjIdeal_OutRefIdeal := fun m ρ m' ρ' _ hagree =>
  ⟨fun c => Cert.OutProjIdeal.Rows.residual m c, fun c => Cert.OutProjIdeal.Rows.normed m c, Cert.OutProjIdeal.Rows.run_result m ρ,
    (θ_run Cert.OutRefIdeal.defs _ _).mono (fun _ h c => ⟨(h c).1.trans (by
      unfold Cert.OutProjIdeal.Rows.residual Cert.OutRefIdeal.Sums.residual
      rw [(hagree c).1, (hagree c).2.1, (hagree c).2.2.1, (hagree c).2.2.2.1, (hagree c).2.2.2.2.1, (hagree c).2.2.2.2.2.1, (hagree c).2.2.2.2.2.2.1]),
      (h c).2.1.trans (by
      unfold Cert.OutProjIdeal.Rows.normed Cert.OutRefIdeal.Sums.normed
      rw [(hagree c).1, (hagree c).2.1, (hagree c).2.2.1, (hagree c).2.2.2.1, (hagree c).2.2.2.2.1, (hagree c).2.2.2.2.2.1, (hagree c).2.2.2.2.2.2.1,
        (hagree c).2.2.2.2.2.2.2]), (h c).2.2⟩) (Cert.OutRefIdeal.Sums.run_result m' ρ')⟩

end Cert.OutClaims

end
-- ==== Proof.DownRows.lean ====
/- What the experts' output kernel's pieces compute over the extended reals. -/
module

public import proofs.«01_k».proof.Proof.Gen.DownIdeal.Frame
public import proofs.«01_k».proof.Proof.Layer
public import Idealize.ShloMosaic.Lib.Pipeline.ValueKit
public import Idealize.ShloMosaic.Lib.Pointwise
public import Idealize.ShloMosaic.Lib.ValueIdx
public import Idealize.ShloMosaic.PureOps.Ideal.Laws

@[expose] public section

set_option maxRecDepth 16384

noncomputable section

namespace Cert.DownIdeal.Rows

open Cert.DownIdeal Cert.DownIdeal.Gen
open Idealize.ShloMosaic Idealize.ShloMosaic.Pointwise Idealize.ShloMosaic.TcCoe Idealize.ShloMosaic.Tactic

/-- The accumulator with one product added. -/
theorem step_apply (o : Vec Ideal S2048x2048 .f32) (p : Vec Ideal S2048x1024 .bf16) (v : Vec Ideal S1024x2048 .bf16) (r d : Fin 2048) :
    k0_pay2 (F := Ideal) o p v (ix2 r d) = o (ix2 r d) + ∑ k : Fin 1024, p (ix2 r k) * v (ix2 k d) := by
  pointwise [k0_pay2]

/-- The first product, over zeros. -/
theorem first_apply (p : Vec Ideal S2048x1024 .bf16) (v : Vec Ideal S1024x2048 .bf16) (r d : Fin 2048) :
    k0_pay2 (F := Ideal) (k0_pay1 (F := Ideal)) p v (ix2 r d) = ∑ k : Fin 1024, p (ix2 r k) * v (ix2 k d) := by
  pointwise [k0_pay2, k0_pay1]

/-- The columns with the residual's added. -/
theorem cols_apply (o x : Vec Ideal S2048x128 .f32) (j : S2048x128.Idx) : k0_pay3 (F := Ideal) o x j = o j + x j := by
  idx_vars j
  pointwise [k0_pay3]

/-- The norm of the accumulator's rows. -/
theorem norm_apply (o : Vec Ideal S2048x2048 .f32) (g : Vec Ideal S1x2048 .f32) (r d : Fin 2048) :
    k0_pay4 (F := Ideal) o g (ix2 r d) = Layer.norm (fun k => o (ix2 r k)) (g (ix2 0 d)) d := by
  unfold Layer.norm
  pointwise [k0_pay4]

/-- The accumulator `o` with the residual's columns `x` added in its column group `n`. -/
def put (n : ℕ) (o : S2048x2048.Idx → EReal) (x : S2048x128.Idx → EReal) : S2048x2048.Idx → EReal := fun y =>
  if (y 1).val / 128 = n then o y + x (ix2 (y 0) ⟨(y 1).val % 128, Nat.mod_lt _ (by decide)⟩) else o y

/-- What the store of one column group over the whole accumulator leaves. -/
theorem put_eq (n : ℕ) (off : Fin 2 → ℕ) (h0 : off 0 = 0) (h1 : off 1 = 128 * n) (inb) (o : Vec Ideal S2048x2048 .f32) (x : Vec Ideal S2048x128 .f32)
    (L : List (View.Piece (Elt Ideal) S2048x2048 .f32)) (hL : View.canon L = o) :
    View.canon (⟨Rect.unit (s := S2048x2048) off S2048x128.size inb, k0_pay3 (F := Ideal) (View.ld o (Rect.unit (s := S2048x2048) off S2048x128.size inb)) x⟩ :: L)
      = put n o x := by
  funext y
  by_cases hy : y ∈ (Rect.unit (s := S2048x2048) off S2048x128.size inb).set
  · obtain ⟨j, hj⟩ := (Rect.unit (s := S2048x2048) off S2048x128.size inb).exists_idx_of_mem hy
    have e0 : (y 0).val = (j 0).val := by
      rw [← hj, Rect.idx_unit_val, h0]
      omega
    have e1 : (y 1).val = 128 * n + (j 1).val := by
      rw [← hj, Rect.idx_unit_val, h1]
    have l1 : (j 1).val < 128 := (j 1).isLt
    have ej : j = (ix2 (y 0) ⟨(y 1).val % 128, Nat.mod_lt _ (by decide)⟩ : S2048x128.Idx) := by
      funext a
      apply Fin.ext
      fin_cases a
      · exact e0.symm
      · show (j 1).val = (y 1).val % 128
        omega
    unfold put
    rw [if_pos (by omega), ← ej]
    have e := View.canon_cons_emb (Rect.unit (s := S2048x2048) off S2048x128.size inb)
      (k0_pay3 (F := Ideal) (View.ld o (Rect.unit (s := S2048x2048) off S2048x128.size inb)) x) L j
    rw [show (Rect.unit (s := S2048x2048) off S2048x128.size inb).emb j = y from hj] at e
    rw [e, cols_apply, View.ld_apply, hj]
  · refine (View.canon_cons_of_not_mem (⟨Rect.unit (s := S2048x2048) off S2048x128.size inb,
      k0_pay3 (F := Ideal) (View.ld o (Rect.unit (s := S2048x2048) off S2048x128.size inb)) x⟩ : View.Piece (Elt Ideal) S2048x2048 .f32) L hy).trans ?_
    rw [hL]
    unfold put
    rw [if_neg]
    intro hn
    have l0 : (y 0).val < 2048 := (y 0).isLt
    have l1 : (y 1).val < 2048 := (y 1).isLt
    refine hy (Rect.mem_set_unit.mpr fun a => ?_)
    fin_cases a
    · show off 0 ≤ (y 0).val ∧ (y 0).val < off 0 + 2048
      omega
    · show off 1 ≤ (y 1).val ∧ (y 1).val < off 1 + 128
      omega

section Stores

variable (c : Dev nD) (i : grid0.Coords) (arg2 : Memref sig .tc .vmem S2048x1024 .bf16) (harg2 : arg2.IsWhole)
  (arg3 : Memref sig .tc .vmem S1024x2048 .bf16) (harg3 : arg3.IsWhole) (arg4 : Memref sig .tc .vmem S2048x128 .f32) (harg4 : arg4.IsWhole)
  (arg5 : Memref sig .tc .vmem S1x2048 .f32) (harg5 : arg5.IsWhole) (arg6 : Memref sig .tc .vmem S2048x2048 .f32) (harg6 : arg6.IsWhole)
  (x0 : Vec Ideal S2048x1024 .bf16) (x1 : Vec Ideal S1024x2048 .bf16) (x2 : Vec Ideal S2048x128 .f32) (x3 : Vec Ideal S1x2048 .f32)
  (xo : Vec Ideal S2048x2048 .f32) (n : ℕ) (hn0 : k0_off1 i 0 = 0) (hn1 : k0_off1 i 1 = 128 * n)
include hn0 hn1

/-- What the first point of a row block leaves. -/
theorem stored_A (hc0 : cond0_0 i) (hc1 : ¬ cond0_1 i) :
    out0_A_4 c i arg2 harg2 arg3 harg3 arg4 harg4 arg5 harg5 arg6 harg6 hc0 hc1 x0 x1 x2 x3 = put n (k0_pay2 (F := Ideal) (k0_pay1 (F := Ideal)) x0 x1) x2 := by
  frame_out
  exact put_eq n _ hn0 hn1 _ _ _ _ (View.canon_cons_unit_lit _ _ _ (by decide))

/-- What a middle point leaves. -/
theorem stored_B (hc0 : ¬ cond0_0 i) (hc1 : ¬ cond0_1 i) :
    out0_B_4 c i arg2 harg2 arg3 harg3 arg4 harg4 arg5 harg5 arg6 harg6 hc0 hc1 x0 x1 x2 x3 xo = put n (k0_pay2 (F := Ideal) xo x0 x1) x2 := by
  frame_out
  exact put_eq n _ hn0 hn1 _ _ _ _ (View.canon_cons_unit_lit _ _ _ (by decide))

/-- What the last point leaves. -/
theorem stored_C (hc0 : ¬ cond0_0 i) (hc1 : cond0_1 i) :
    out0_C_4 c i arg2 harg2 arg3 harg3 arg4 harg4 arg5 harg5 arg6 harg6 hc0 hc1 x0 x1 x2 x3 xo
      = k0_pay4 (F := Ideal) (put n (k0_pay2 (F := Ideal) xo x0 x1) x2) x3 := by
  frame_out
  refine congrArg (fun o => k0_pay4 (F := Ideal) o x3) ?_
  rw [View.readCov_eq_canon', put_eq n _ hn0 hn1 _ _ _ _ (View.canon_cons_unit_lit _ _ _ (by decide))]
  funext j
  refine congrArg _ (funext fun a => Fin.ext ?_)
  refine (Rect.idx_unit_val _ _ _ j a).trans ?_
  fin_cases a <;> exact Nat.zero_add _

end Stores

end Cert.DownIdeal.Rows

end
-- ==== Proof.DownResult.lean ====
/- The experts' output kernel's result array over the extended reals: what the accumulator holds after each point of a row block. -/
module

public import proofs.«01_k».proof.Proof.DownRows
public import proofs.«01_k».proof.Proof.Gen.DownIdeal.Value
public import Idealize.ShloMosaic.Lib.Pipeline.ValueKit
public import Idealize.ShloMosaic.Lib.Claim

@[expose] public section

set_option maxRecDepth 16384

noncomputable section

namespace Cert.DownIdeal.Rows

open Cert.DownIdeal Cert.DownIdeal.Gen
open Idealize.ShloMosaic Idealize.ShloMosaic.Pointwise Idealize.ShloMosaic.TcCoe Idealize.ShloMosaic.Tactic
open Idealize.SL.Sem

variable (m : (ℓ : Loc nD τ sig) → Buf (Elt Ideal) ℓ) (ρ : Dev nD → PrngReg)

/-- What the result array is shown to hold. -/
abbrev result (c : Dev nD) : Buf (Elt Ideal) ((c : Thread nD τ).loc main_v1) :=
  Layer.resultArray (m ((c : Thread nD τ).loc main_arg0)) (m ((c : Thread nD τ).loc main_arg1)) (m ((c : Thread nD τ).loc main_arg2))
    (m ((c : Thread nD τ).loc main_arg3))

/-- Where each point stands: row block `t / 16`, experts' block and column group `t % 16`. -/
theorem idx : ∀ t : Fin cfg0.N, win0_0.index t = ![t.val / 16, t.val % 16] ∧ win0_1.index t = ![t.val % 16, 0]
    ∧ win0_2.index t = ![t.val / 16, t.val % 16] ∧ win0_3.index t = ![0, 0] ∧ win0_4.index t = ![t.val / 16, 0] :=
  (by decide +kernel : ∀ t : Fin grid0.N, _)

/-- Where each point adds the residual's columns. -/
theorem off : ∀ t : Fin cfg0.N, k0_off1 (grid0.coords t) 0 = 0 ∧ k0_off1 (grid0.coords t) 1 = 128 * (t.val % 16) :=
  (by decide +kernel : ∀ t : Fin grid0.N, _)

section Reads

variable (c : Dev nD) (t : Fin cfg0.N)

/-- An entry of the coefficients' block. -/
theorem a_read (r : Fin 2048) (T : Fin 8192) (hT : T.val = t.val / 16 * 2048 + r.val) (k : Fin 1024) (e : Fin 16384)
    (he : e.val = t.val % 16 * 1024 + k.val) :
    iblk m c 0 t (ix2 r k) = (m ((c : Thread nD τ).loc main_arg0) : FVec Ideal S8192x16384 .bf16) (ix2 T e) := by
  blk_point [iblk, V, idx t]

/-- An entry of the experts' block. -/
theorem v_read (k : Fin 1024) (e : Fin 16384) (he : e.val = t.val % 16 * 1024 + k.val) (d : Fin 2048) :
    iblk m c 1 t (ix2 k d) = (m ((c : Thread nD τ).loc main_arg1) : FVec Ideal S16384x2048 .bf16) (ix2 e d) := by
  blk_point [iblk, V, idx t]

/-- An entry of the residual's column group. -/
theorem x_read (r : Fin 2048) (T : Fin 8192) (hT : T.val = t.val / 16 * 2048 + r.val) (l : Fin 128) (d : Fin 2048)
    (hd : d.val = t.val % 16 * 128 + l.val) :
    iblk m c 2 t (ix2 r l) = (m ((c : Thread nD τ).loc main_arg2) : FVec Ideal S8192x2048 .f32) (ix2 T d) := by
  blk_point [iblk, V, idx t]

/-- An entry of the gain. -/
theorem g_read (d : Fin 2048) : iblk m c 3 t (ix2 0 d) = (m ((c : Thread nD τ).loc main_arg3) : FVec Ideal S2048 .f32) (ix1 d) := by
  blk_point [iblk, V, idx t]

end Reads

/-- Experts' block `b`'s share of token `T`'s sum at column `d`. -/
def part (a : S8192x16384.Idx → EReal) (v : S16384x2048.Idx → EReal) (b : ℕ) (T : Fin 8192) (d : Fin 2048) : EReal :=
  ∑ k : Fin 1024, a (ix2 T ⟨(b * 1024 + k.val) % 16384, Nat.mod_lt _ (by decide)⟩) * v (ix2 ⟨(b * 1024 + k.val) % 16384, Nat.mod_lt _ (by decide)⟩ d)

/-- What the accumulator holds after the experts' blocks through `j`: their shares, and the residual in the column groups through `j`. -/
def held (a : S8192x16384.Idx → EReal) (v : S16384x2048.Idx → EReal) (x : S8192x2048.Idx → EReal) (j : ℕ) (T : Fin 8192) (d : Fin 2048) : EReal :=
  (∑ b ∈ Finset.range (j + 1), part a v b T d) + if d.val / 128 ≤ j then x (ix2 T d) else 0

/-- The coefficients, the experts' rows and the residual. -/
abbrev aOf (c : Dev nD) : S8192x16384.Idx → EReal := m ((c : Thread nD τ).loc main_arg0)
abbrev vOf (c : Dev nD) : S16384x2048.Idx → EReal := m ((c : Thread nD τ).loc main_arg1)
abbrev xOf (c : Dev nD) : S8192x2048.Idx → EReal := m ((c : Thread nD τ).loc main_arg2)

/-- A point's product is its experts' block's share. -/
theorem product (c : Dev nD) (t : Fin cfg0.N) (r : Fin 2048) (T : Fin 8192) (hT : T.val = t.val / 16 * 2048 + r.val) (d : Fin 2048)
    (p : S2048x1024.Idx → EReal) (v : S1024x2048.Idx → EReal) (hp : p = iblk m c 0 t) (hv : v = iblk m c 1 t) :
    (∑ k : Fin 1024, p (ix2 r k) * v (ix2 k d)) = part (aOf m c) (vOf m c) (t.val % 16) T d := by
  subst hp hv
  unfold part
  refine Finset.sum_congr (M := EReal) rfl fun k _ => ?_
  have he : (t.val % 16 * 1024 + k.val) % 16384 = t.val % 16 * 1024 + k.val := by omega
  exact congrArg₂ (fun a b : EReal => a * b) (a_read m c t r T hT k ⟨_, Nat.mod_lt _ (by decide)⟩ he) (v_read m c t k ⟨_, Nat.mod_lt _ (by decide)⟩ he d)

/-- Adding the residual's column group to an accumulator. -/
theorem put_read (c : Dev nD) (t : Fin cfg0.N) (r : Fin 2048) (T : Fin 8192) (hT : T.val = t.val / 16 * 2048 + r.val) (d : Fin 2048)
    (o : S2048x2048.Idx → EReal) :
    put (t.val % 16) o (iblk m c 2 t) (ix2 r d) = o (ix2 r d) + if d.val / 128 = t.val % 16 then xOf m c (ix2 T d) else 0 := by
  have hx := x_read m c t r T hT ⟨d.val % 128, Nat.mod_lt _ (by decide)⟩ d
  unfold put
  show (if d.val / 128 = t.val % 16 then o (ix2 r d) + (iblk m c 2 t : S2048x128.Idx → EReal) (ix2 r ⟨d.val % 128, Nat.mod_lt _ (by decide)⟩)
    else o (ix2 r d)) = _
  by_cases h : d.val / 128 = t.val % 16
  · rw [if_pos h, if_pos h]
    refine congrArg (fun a : EReal => o (ix2 r d) + a) (hx ?_)
    show d.val = t.val % 16 * 128 + d.val % 128
    omega
  · rw [if_neg h, if_neg h, add_zero]

/-- The first point of a row block. -/
theorem held_first (c : Dev nD) (t : Fin cfg0.N) (h0 : t.val % 16 = 0) (r : Fin 2048) (T : Fin 8192) (hT : T.val = t.val / 16 * 2048 + r.val)
    (d : Fin 2048) :
    put (t.val % 16) (k0_pay2 (F := Ideal) (k0_pay1 (F := Ideal)) (iblk m c 0 t) (iblk m c 1 t)) (iblk m c 2 t) (ix2 r d)
      = held (aOf m c) (vOf m c) (xOf m c) (t.val % 16) T d := by
  refine (put_read m c t r T hT d _).trans ?_
  refine (congrArg (fun a : EReal => a + _) ((first_apply _ _ r d).trans (product m c t r T hT d _ _ rfl rfl))).trans ?_
  unfold held
  rw [h0, Finset.sum_range_one]
  simp only [Nat.le_zero]

/-- A later point: the shares and the column groups through the one before, and its own. -/
theorem held_next (c : Dev nD) (t : Fin cfg0.N) (h0 : ¬t.val % 16 = 0) (o : Vec Ideal S2048x2048 .f32) (r : Fin 2048) (T : Fin 8192)
    (hT : T.val = t.val / 16 * 2048 + r.val) (d : Fin 2048) (ho : o (ix2 r d) = held (aOf m c) (vOf m c) (xOf m c) (t.val % 16 - 1) T d) :
    put (t.val % 16) (k0_pay2 (F := Ideal) o (iblk m c 0 t) (iblk m c 1 t)) (iblk m c 2 t) (ix2 r d)
      = held (aOf m c) (vOf m c) (xOf m c) (t.val % 16) T d := by
  refine (put_read m c t r T hT d _).trans ?_
  refine (congrArg (fun a : EReal => a + _) ((step_apply _ _ _ r d).trans
    (congrArg₂ (fun a b : EReal => a + b) ho (product m c t r T hT d _ _ rfl rfl)))).trans ?_
  obtain ⟨j, hj⟩ : ∃ j, t.val % 16 = j + 1 := ⟨t.val % 16 - 1, by omega⟩
  rw [hj, Nat.add_sub_cancel]
  unfold held
  rw [Finset.sum_range_succ _ (j + 1)]
  by_cases h1 : d.val / 128 ≤ j
  · rw [if_pos h1, if_neg (by omega), if_pos (by omega), add_zero, add_right_comm]
  · rw [if_neg h1, add_zero]
    by_cases h2 : d.val / 128 = j + 1
    · rw [if_pos h2, if_pos (by omega)]
    · rw [if_neg h2, if_neg (by omega)]

/-- What the accumulator holds after a point that is not the last of its row block. -/
theorem acc (c : Dev nD) : ∀ (n : ℕ) (h : n < cfg0.N) (_ : ¬n % 16 = 15) (r : Fin 2048) (T : Fin 8192) (_ : T.val = n / 16 * 2048 + r.val)
    (d : Fin 2048), (outsAt0 m c n h : FVec Ideal S2048x2048 .f32) (ix2 r d) = held (aOf m c) (vOf m c) (xOf m c) (n % 16) T d
  | 0, h, h1, r, T, hT, d => by
    rw [outsAt0_A m c ⟨0, h⟩ rfl h1]
    rw [stored_A (n := 0 % 16) (hn0 := (off ⟨0, h⟩).1) (hn1 := (off ⟨0, h⟩).2)]
    exact held_first m c ⟨0, h⟩ rfl r T hT d
  | n + 1, h, h1, r, T, hT, d => by
    by_cases h0 : (n + 1) % 16 = 0
    · rw [outsAt0_A m c ⟨n + 1, h⟩ h0 h1]
      rw [stored_A (n := (n + 1) % 16) (hn0 := (off ⟨n + 1, h⟩).1) (hn1 := (off ⟨n + 1, h⟩).2)]
      exact held_first m c ⟨n + 1, h⟩ h0 r T hT d
    · rw [outsAt0_B m c ⟨n + 1, h⟩ h0 h1]
      rw [stored_B (n := (n + 1) % 16) (hn0 := (off ⟨n + 1, h⟩).1) (hn1 := (off ⟨n + 1, h⟩).2)]
      refine held_next m c ⟨n + 1, h⟩ h0 _ r T hT d ?_
      refine (acc c n (Nat.lt_of_succ_lt h) (by omega) r T (by omega) d).trans ?_
      exact congrArg (fun j => held (aOf m c) (vOf m c) (xOf m c) j T d) (by show n % 16 = (n + 1) % 16 - 1; omega)

/-- All the shares and the whole residual. -/
theorem held_last (c : Dev nD) (T : Fin 8192) (d : Fin 2048) :
    held (aOf m c) (vOf m c) (xOf m c) 15 T d = Layer.mixture (m ((c : Thread nD τ).loc main_arg0)) (m ((c : Thread nD τ).loc main_arg1)) (m ((c : Thread nD τ).loc main_arg2)) T d := by
  unfold held Layer.mixture
  rw [if_pos (by omega), add_comm]
  refine congrArg (fun a : EReal => _ + a) ?_
  rw [Finset.sum_range]
  unfold part
  refine Fin.sum_mul_add_congr (S := 16) (n := 1024) (fun s k hl => ?_)
  have he : (⟨(s.val * 1024 + k.val) % 16384, Nat.mod_lt _ (by decide)⟩ : Fin 16384) = ⟨s.val * 1024 + k.val, hl⟩ := Fin.ext (Nat.mod_eq_of_lt hl)
  rw [he]

/-- What the last point of a row block leaves. -/
theorem last (c : Dev nD) (t : Fin cfg0.N) (h1 : t.val % 16 = 15) (y : S2048x2048.Idx) (T : Fin 8192) (hT : T.val = t.val / 16 * 2048 + (y 0).val) :
    (outsAt0 m c t.val t.isLt : FVec Ideal S2048x2048 .f32) y = result m c (ix2 T (y 1)) := by
  have h0 : ¬t.val % 16 = 0 := by omega
  rw [outsAt0_C m c t h0 h1]
  rw [stored_C (n := t.val % 16) (hn0 := (off t).1) (hn1 := (off t).2)]
  idx_vars y
  refine (norm_apply _ _ y0 y1).trans ?_
  rw [g_read m c t y1]
  refine congrArg (fun f => Layer.norm f _ y1) (funext fun k => ?_)
  refine (held_next m c t h0 _ y0 T hT k ?_).trans ((congrArg (fun j => held (aOf m c) (vOf m c) (xOf m c) j T k) h1).trans (held_last m c T k))
  refine (acc m c (t.val - 1) _ (by omega) y0 T (by omega) k).trans ?_
  exact congrArg (fun j => held (aOf m c) (vOf m c) (xOf m c) j T k) (by omega)

/-- The result array after the run. -/
theorem final (c : Dev nD) : (dats m 0 c).arrAt 4 (cfgs 0).N = result m c := by
  refine (dats m 0 c).arrAt_eq_of_covers 4 _ (by decide +kernel) fun t hf y => ?_
  have h1 : t.val % 16 = 15 := (flush0_4 t).mp hf
  blk_simp
  rw [after0_4]
  have hy : (y 0 : ℕ) < 2048 := (y 0).isLt
  have ht : (t : ℕ) < 64 := t.isLt
  obtain ⟨T, hT⟩ : ∃ T : Fin 8192, (T : ℕ) = (t : ℕ) / 16 * 2048 + (y 0 : ℕ) := ⟨⟨_, by omega⟩, rfl⟩
  have e : (win0_4.blk t).view.emb y = (ix2 T (y 1) : S8192x2048.Idx) := by
    funext a
    apply Fin.ext
    fin_cases a
    · blk_simp [idx t]
      exact hT.symm
    · blk_simp [idx t]
      rfl
  rw [e]
  exact last m c t h1 y T hT

/-- The run, with the result array at the norm of the experts' output and the arguments unchanged. -/
theorem run_result : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final m c), (h c).2⟩) (Value.run_blocks (F := Ideal) m ρ)

end Cert.DownIdeal.Rows

end
-- ==== Proof.DownSums.lean ====
/- The experts' output's host reference over the extended reals: its result array, element by element. -/
module

public import proofs.«01_k».proof.Proof.Gen.DownRefIdeal.Run
public import proofs.«01_k».proof.Proof.Layer
public import Idealize.ShloMosaic.Lib.Pointwise
public import Idealize.ShloMosaic.Lib.ValueIdx
public import Idealize.ShloMosaic.PureOps.Ideal.Laws
public import Idealize.ShloMosaic.Lib.IdealHost

@[expose] public section

set_option maxRecDepth 16384

noncomputable section

namespace Cert.DownRefIdeal.Sums

open Cert.DownRefIdeal Cert.DownRefIdeal.Gen
open Idealize.ShloMosaic Idealize.ShloMosaic.Pointwise Idealize.ShloMosaic.TcCoe Idealize.ShloMosaic.Tactic
open Idealize.SL.Sem

variable (m : (ℓ : Loc nD τ sig) → Buf (Elt Ideal) ℓ) (ρ : Dev nD → PrngReg)

/-- The residual and the experts' rows, summed. -/
theorem mixture_apply (a : FVec Ideal S8192x16384 .bf16) (v : FVec Ideal S16384x2048 .bf16) (x : FVec Ideal S8192x2048 .f32) (t : Fin 8192)
    (d : Fin 2048) :
    (addf x (Host.dotGeneral dot_S8192x16384_S16384x2048_S8192x2048_1_0_0_1_n_n none (extf .f32 a bitsLt_bf16_f32) (extf .f32 v bitsLt_bf16_f32)) : FVec Ideal S8192x2048 .f32) (ix2 t d)
      = Layer.mixture a v x t d := by
  unfold Layer.mixture
  pointwise

/-- The norm of any array's rows. -/
theorem norm_apply (X : FVec Ideal S8192x2048 .f32) (g : FVec Ideal S2048 .f32) (t : Fin 8192) (d : Fin 2048) :
    (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g)) : FVec Ideal S8192x2048 .f32) (ix2 t d)
      = Layer.norm (fun k => X (ix2 t k)) (g (ix1 d)) d := by
  unfold Layer.norm
  pointwise

/-- What the result array is shown to hold. -/
abbrev result (c : Dev nD) : Buf (Elt Ideal) ((c : Thread nD τ).loc main_v16) :=
  Layer.resultArray (m ((c : Thread nD τ).loc main_arg0)) (m ((c : Thread nD τ).loc main_arg1)) (m ((c : Thread nD τ).loc main_arg2))
    (m ((c : Thread nD τ).loc main_arg3))

/-- The run, with the result array at the norm of the experts' output and the arguments unchanged. -/
theorem run_result : θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run (F := Ideal) m ρ)
  funext i
  change S8192x2048.Idx at i
  idx_vars i
  refine (norm_apply _ _ i0 i1).trans ?_
  exact congrArg (fun f => Layer.norm f _ i1) (funext fun k => mixture_apply _ _ _ i0 k)

end Cert.DownRefIdeal.Sums

end
-- ==== Proof.DownClaims.lean ====
/- The claims about the experts' output. -/
module

public import proofs.«01_k».proof.Defs
public import proofs.«01_k».proof.Proof.Gen.Down
public import proofs.«01_k».proof.Proof.DownResult
public import proofs.«01_k».proof.Proof.DownSums
public import Idealize.ShloMosaic.Lib.Quiescent
public import Idealize.ShloMosaic.Lib.Claim

@[expose] public section

noncomputable section

namespace Cert.DownClaims

open Idealize.ShloMosaic Idealize.ShloMosaic.TcCoe Idealize.ShloMosaic.Tactic Idealize.SL.Sem

/-- The kernel's frame: its text is the idealization's own, whose frame holds over any floats. -/
theorem frame_kernel : Cert.quiescent_Down := fun m ρ _ => by
  have h := Cert.DownIdeal.Gen.frame (F := Bits) m ρ
  exact cast (by sl_kernel_rfl) h

/-- The idealization's frame. -/
theorem frame_ideal : Cert.quiescent_DownIdeal := fun m ρ _ => Cert.DownIdeal.Gen.frame m ρ

/-- The host reference's frame. -/
theorem frame_ref : Cert.quiescent_DownRefIdeal := fun m ρ _ =>
  (θ_run Cert.DownRefIdeal.defs _ _).mono (fun _ h => ⟨fun c => (h c).2, sem_eq_zero_of_no_sems rfl _⟩) (Cert.DownRefIdeal.Value.run m ρ)

/-- Over the extended reals the kernel and the host reference compute the same norm of the experts' output. -/
theorem same_result : Cert.algebraic_DownIdeal_DownRefIdeal := fun m ρ m' ρ' _ hagree =>
  ⟨fun c => Cert.DownIdeal.Rows.result m c, Cert.DownIdeal.Rows.run_result m ρ,
    (θ_run Cert.DownRefIdeal.defs _ _).mono (fun _ h c => ⟨(h c).1.trans (by
      unfold Cert.DownIdeal.Rows.result Cert.DownRefIdeal.Sums.result
      rw [(hagree c).1, (hagree c).2.1, (hagree c).2.2.1, (hagree c).2.2.2]), (h c).2⟩) (Cert.DownRefIdeal.Sums.run_result m' ρ')⟩

end Cert.DownClaims

end
-- ==== Proof.UpRows.lean ====
/- What the picks' activations kernel's pieces compute over the extended reals. -/
module

public import proofs.«01_k».proof.Proof.Gen.UpIdeal.Frame
public import Idealize.ShloMosaic.Lib.Pipeline.ValueKit
public import Idealize.ShloMosaic.Lib.Pipeline.ReadBack
public import Idealize.ShloMosaic.Lib.Pointwise
public import Idealize.ShloMosaic.Lib.ValueIdx
public import Idealize.ShloMosaic.PureOps.Ideal.Laws

@[expose] public section

set_option maxRecDepth 16384

noncomputable section

namespace Cert.UpIdeal.Rows

open Cert.UpIdeal Cert.UpIdeal.Gen
open Idealize.ShloMosaic Idealize.ShloMosaic.Pointwise Idealize.ShloMosaic.TcCoe Idealize.ShloMosaic.Tactic

/-- The first group of 128 experts a chunk holds, as the kernel works it out: the floor of the quotient by 128 of the chunk's
first expert. -/
def floorDiv (w s : BitVec 32) : BitVec 32 :=
  Scalar.select
    (Scalar.andi
      (Scalar.cmpi .ne
        (Scalar.subi (Scalar.extui (Scalar.cmpi .sgt (Scalar.addi (Scalar.muli w 1024#32) s) 0#32))
          (Scalar.extui (Scalar.cmpi .slt (Scalar.addi (Scalar.muli w 1024#32) s) 0#32))) 1#32)
      (Scalar.cmpi .ne (Scalar.remsi (Scalar.addi (Scalar.muli w 1024#32) s) 128#32) 0#32))
    (Scalar.subi (Scalar.divsi (Scalar.addi (Scalar.muli w 1024#32) s) 128#32) 1#32)
    (Scalar.divsi (Scalar.addi (Scalar.muli w 1024#32) s) 128#32)

/-- That group's number. -/
theorem floorDiv_eq (j : ℕ) (hj : j < 16) : floorDiv (BitVec.ofNat 32 j) 0#32 = BitVec.ofNat 32 (8 * j)
    ∧ floorDiv (BitVec.ofNat 32 j) 256#32 = BitVec.ofNat 32 (8 * j + 2) ∧ floorDiv (BitVec.ofNat 32 j) 512#32 = BitVec.ofNat 32 (8 * j + 4)
    ∧ floorDiv (BitVec.ofNat 32 j) 768#32 = BitVec.ofNat 32 (8 * j + 6) := by
  have h : ∀ j : Fin 16, floorDiv (BitVec.ofNat 32 j.val) 0#32 = BitVec.ofNat 32 (8 * j.val)
    ∧ floorDiv (BitVec.ofNat 32 j.val) 256#32 = BitVec.ofNat 32 (8 * j.val + 2) ∧ floorDiv (BitVec.ofNat 32 j.val) 512#32 = BitVec.ofNat 32 (8 * j.val + 4)
    ∧ floorDiv (BitVec.ofNat 32 j.val) 768#32 = BitVec.ofNat 32 (8 * j.val + 6) := by decide +kernel
  exact h ⟨j, hj⟩

/-- Which of the group's 128 columns each pick reads. -/
def lanes (e : IVec S256x128 32) : IVec S256x128 32 :=
  shapeCast S256x128 (shapeCast S256x128x1 (andi e (broadcast S256x128 127#32)) shapeCasts_S256x128_S256x128x1) shapeCasts_S256x128x1_S256x128

/-- Tokens against a chunk of 256 experts. -/
def dense (h : Vec Ideal S256x2048 .bf16) (u : Vec Ideal S256x2048 .f32) : FVec Ideal S256x256 .f32 :=
  matmul (φ₁ := .bf16) dot_S256x2048_S256x2048_S256x256_1_1_0_0_n_n none h (truncf .bf16 (shapeCast S256x2048 u shapeCasts_S256x2048_S256x2048) bitsLt_bf16_f32)
    (constant S256x256 .f32 0x00000000#32)

/-- One chunk's two groups taken into the picks that name them. -/
def chunk (w s : BitVec 32) (h : Vec Ideal S256x2048 .bf16) (u : Vec Ideal S256x2048 .f32) (e : IVec S256x128 32) (a : FVec Ideal S256x128 .f32) :
    FVec Ideal S256x128 .f32 :=
  select (cmpi .eq (shrsi e (broadcast S256x128 7#32)) (broadcast S256x128 (Scalar.addi (floorDiv w s) 1#32)))
    (dynamicGather 1 (extractStridedSlice S256x128 ![0, 128] (dense h u) slices_S256x256_o0_128_S256x128) (lanes e))
    (select (cmpi .eq (shrsi e (broadcast S256x128 7#32)) (broadcast S256x128 (Scalar.addi (floorDiv w s) 0#32)))
      (dynamicGather 1 (extractStridedSlice S256x128 ![0, 0] (dense h u) slices_S256x256_o0_0_S256x128) (lanes e)) a)

/-- One tile of 256 tokens: the four chunks in turn. -/
def tile (w : BitVec 32) (h : Vec Ideal S256x2048 .bf16) (u0 u1 u2 u3 : Vec Ideal S256x2048 .f32) (e : IVec S256x128 32)
    (a : Vec Ideal S256x128 .f32) : FVec Ideal S256x128 .f32 :=
  chunk w 768#32 h u3 e (chunk w 512#32 h u2 e (chunk w 256#32 h u1 e (chunk w 0#32 h u0 e (shapeCast S256x128 a shapeCasts_S256x128_S256x128))))

/-- A pick's group is `n` when its number divided by 128 is. -/
theorem group_iff (v : BitVec 32) (n : ℕ) (hn : n < 128) : IntOp.shrsi .vector v 7#32 = BitVec.ofNat 32 n ↔ v.toNat / 128 = n := by
  have h1 : (IntOp.shrsi .vector v 7#32).toInt = v.toInt / 128 := by
    rw [IntOp.shrsi, if_pos (by decide), BitVec.toInt_sshiftRight']
    rw [Int.shiftRight_eq_div_pow]
    rfl
  have h3 : (BitVec.ofNat 32 n).toInt = n := by
    rw [BitVec.toInt_eq_toNat_cond, BitVec.toNat_ofNat]; split <;> omega
  rw [← BitVec.toInt_inj, h1, h3]
  have hw := v.isLt
  have ht := BitVec.toInt_eq_toNat_cond v
  split at ht <;> omega

/-- A pick's column. -/
theorem lane_nat (v : BitVec 32) : (IntOp.andi v 127#32).toNat % 128 = v.toNat % 128 := by
  have : (IntOp.andi v 127#32).toNat = v.toNat % 128 := by
    rw [IntOp.andi, BitVec.toNat_and]
    exact Nat.and_two_pow_sub_one_eq_mod v.toNat 7
  rw [this, Nat.mod_mod]

/-- A product of a token and an expert. -/
theorem dense_apply (h : Vec Ideal S256x2048 .bf16) (u : Vec Ideal S256x2048 .f32) (r n : Fin 256) :
    dense h u (ix2 r n) = ∑ d : Fin 2048, h (ix2 r d) * u (ix2 n d) := by
  unfold dense
  pointwise

/-- Each pick's column. -/
theorem lanes_apply (e : IVec S256x128 32) (j : S256x128.Idx) : lanes e j = IntOp.andi (e j) 127#32 := by
  idx_vars j
  unfold lanes
  pointwise

/-- A choice by an equality of words. -/
theorem select_eq {α : Type} (v w : BitVec 32) (x y : α) : Scalar.select (IntOp.cmpi .eq v w) x y = if v = w then x else y := by
  by_cases h : v = w
  · simp [Scalar.select, IntOp.cmpi, h]
  · have hb : (v == w) = false := by simpa using h
    simp [Scalar.select, IntOp.cmpi, h, hb]

/-- One chunk's groups, taken or not. -/
theorem chunk_apply (w s : BitVec 32) (n : ℕ) (hn : n + 1 < 128) (hw : floorDiv w s = BitVec.ofNat 32 n) (h : Vec Ideal S256x2048 .bf16) (u : Vec Ideal S256x2048 .f32)
    (e : IVec S256x128 32) (a : FVec Ideal S256x128 .f32) (r : Fin 256) (p : Fin 128) :
    chunk w s h u e a (ix2 r p)
      = if (e (ix2 r p)).toNat / 128 = n + 1 then ∑ d : Fin 2048, h (ix2 r d) * u (ix2 ⟨128 + (e (ix2 r p)).toNat % 128, by omega⟩ d)
        else if (e (ix2 r p)).toNat / 128 = n then ∑ d : Fin 2048, h (ix2 r d) * u (ix2 ⟨(e (ix2 r p)).toNat % 128, by omega⟩ d)
        else a (ix2 r p) := by
  have e1 : Scalar.addi (floorDiv w s) 1#32 = BitVec.ofNat 32 (n + 1) := by
    rw [hw]
    show BitVec.ofNat 32 n + BitVec.ofNat 32 1 = _
    rw [← BitVec.ofNat_add]
  have e0 : Scalar.addi (floorDiv w s) 0#32 = BitVec.ofNat 32 n := by
    rw [hw]
    exact BitVec.add_zero _
  unfold chunk
  rw [e1, e0]
  show Scalar.select (IntOp.cmpi .eq (IntOp.shrsi .vector (e (ix2 r p)) 7#32) (BitVec.ofNat 32 (n + 1))) _
    (Scalar.select (IntOp.cmpi .eq (IntOp.shrsi .vector (e (ix2 r p)) 7#32) (BitVec.ofNat 32 n)) _ _) = _
  rw [select_eq, select_eq]
  simp only [group_iff _ _ hn, group_iff _ n (by omega)]
  refine if_congr Iff.rfl ?_ (if_congr Iff.rfl ?_ rfl)
  · rw [← dense_apply]
    refine congrArg (dense h u) ?_
    funext b
    apply Fin.ext
    fin_cases b
    · exact Nat.zero_add _
    · show 128 + (lanes e (ix2 r p)).toNat % 128 = 128 + (e (ix2 r p)).toNat % 128
      rw [lanes_apply, lane_nat]
  · rw [← dense_apply]
    refine congrArg (dense h u) ?_
    funext b
    apply Fin.ext
    fin_cases b
    · exact Nat.zero_add _
    · show 0 + (lanes e (ix2 r p)).toNat % 128 = (e (ix2 r p)).toNat % 128
      rw [lanes_apply, lane_nat, Nat.zero_add]

/-- A tile: the picks among the point's 1024 experts get their product, the others keep what they had. -/
theorem tile_apply (j : ℕ) (hj : j < 16) (h : Vec Ideal S256x2048 .bf16) (u0 u1 u2 u3 : Vec Ideal S256x2048 .f32) (e : IVec S256x128 32)
    (a : Vec Ideal S256x128 .f32) (U : Fin 1024 → Fin 2048 → EReal) (h0 : ∀ (n : Fin 256) d, u0 (ix2 n d) = U ⟨n.val, by omega⟩ d)
    (h1 : ∀ (n : Fin 256) d, u1 (ix2 n d) = U ⟨256 + n.val, by omega⟩ d) (h2 : ∀ (n : Fin 256) d, u2 (ix2 n d) = U ⟨512 + n.val, by omega⟩ d)
    (h3 : ∀ (n : Fin 256) d, u3 (ix2 n d) = U ⟨768 + n.val, by omega⟩ d) (r : Fin 256) (p : Fin 128) :
    tile (BitVec.ofNat 32 j) h u0 u1 u2 u3 e a (ix2 r p)
      = if (e (ix2 r p)).toNat / 1024 = j then ∑ d : Fin 2048, h (ix2 r d) * U ⟨(e (ix2 r p)).toNat % 1024, Nat.mod_lt _ (by decide)⟩ d
        else a (ix2 r p) := by
  obtain ⟨f0, f1, f2, f3⟩ := floorDiv_eq j hj
  have ea : shapeCast S256x128 a shapeCasts_S256x128_S256x128 (ix2 r p) = a (ix2 r p) := by
    pointwise
  unfold tile
  rw [chunk_apply _ _ _ (by omega) f3, chunk_apply _ _ _ (by omega) f2, chunk_apply _ _ _ (by omega) f1, chunk_apply _ _ _ (by omega) f0, ea]
  simp only [h0, h1, h2, h3]
  have key : ∀ (n : ℕ) (hn : n < 1024), n = (e (ix2 r p)).toNat % 1024 →
      (∑ d : Fin 2048, h (ix2 r d) * U ⟨n, hn⟩ d) = ∑ d : Fin 2048, h (ix2 r d) * U ⟨(e (ix2 r p)).toNat % 1024, Nat.mod_lt _ (by decide)⟩ d := by
    intro n hn en
    subst en
    rfl
  by_cases g : (e (ix2 r p)).toNat / 1024 = j
  · rw [if_pos g]
    split_ifs
    all_goals first | (refine key _ _ ?_; omega) | (exfalso; omega)
  · rw [if_neg g]
    split_ifs
    all_goals first | rfl | (exfalso; omega)

/-- What a point makes of an array `o`: a pick among the point's experts gets its product, another keeps what it had. -/
def step (j : ℕ) (h : S2048x2048.Idx → EReal) (u : S1024x2048.Idx → EReal) (e : S2048x128.Idx → BitVec 32) (o : S2048x128.Idx → EReal) :
    S2048x128.Idx → EReal := fun y =>
  if (e y).toNat / 1024 = j then ∑ d : Fin 2048, h (ix2 (y 0) d) * u (ix2 ⟨(e y).toNat % 1024, Nat.mod_lt _ (by decide)⟩ d) else o y

section Stores

variable (c : Dev nD) (i : grid0.Coords) (arg2 : Memref sig .tc .vmem S2048x2048 .bf16) (harg2 : arg2.IsWhole)
  (arg3 : Memref sig .tc .vmem S1024x2048 .f32) (harg3 : arg3.IsWhole) (arg4 : Memref sig .tc .vmem S2048x128 .i32) (harg4 : arg4.IsWhole)
  (arg5 : Memref sig .tc .vmem S2048x128 .f32) (harg5 : arg5.IsWhole) (x0 : Vec Ideal S2048x2048 .bf16) (x1 : Vec Ideal S1024x2048 .f32)
  (x2 : Vec Ideal S2048x128 .i32) (xo : Vec Ideal S2048x128 .f32)

/-- What the point does to 256 tokens from row `o` on. -/
def rows (w : BitVec 32) (o : ℕ) (ih : ∀ a : Fin 2, (![o, 0] : Fin 2 → ℕ) a + S256x2048.size a ≤ S2048x2048.size a)
    (ie : ∀ a : Fin 2, (![o, 0] : Fin 2 → ℕ) a + S256x128.size a ≤ S2048x128.size a) : FVec Ideal S256x128 .f32 :=
  tile w (View.ld x0 (Rect.unit (s := S2048x2048) ![o, 0] S256x2048.size ih))
    (View.ld x1 (Rect.unit (s := S1024x2048) ![0, 0] S256x2048.size inb_S1024x2048_S256x2048_0_0))
    (View.ld x1 (Rect.unit (s := S1024x2048) ![256, 0] S256x2048.size inb_S1024x2048_S256x2048_256_0))
    (View.ld x1 (Rect.unit (s := S1024x2048) ![512, 0] S256x2048.size inb_S1024x2048_S256x2048_512_0))
    (View.ld x1 (Rect.unit (s := S1024x2048) ![768, 0] S256x2048.size inb_S1024x2048_S256x2048_768_0))
    (View.ld x2 (Rect.unit (s := S2048x128) ![o, 0] S256x128.size ie)) (View.ld xo (Rect.unit (s := S2048x128) ![o, 0] S256x128.size ie))

/-- Those tokens' part of the step. -/
theorem rows_apply (j : ℕ) (hj : j < 16) (o : ℕ) (ho : o + 256 ≤ 2048) (ih) (ie) (r : Fin 256) (p : Fin 128) :
    rows x0 x1 x2 xo (BitVec.ofNat 32 j) o ih ie (ix2 r p) = step j x0 x1 x2 xo (ix2 ⟨o + r.val, by omega⟩ p) := by
  have er : ∀ (ie : ∀ a : Fin 2, (![o, 0] : Fin 2 → ℕ) a + S256x128.size a ≤ S2048x128.size a),
      (Rect.unit (s := S2048x128) ![o, 0] S256x128.size ie).idx (ix2 r p) = (ix2 ⟨o + r.val, by omega⟩ p : S2048x128.Idx) := by
    intro ie
    funext b
    apply Fin.ext
    rw [Rect.idx_unit_val]
    fin_cases b
    · rfl
    · exact Nat.zero_add _
  unfold rows
  rw [tile_apply j hj _ _ _ _ _ _ _ (fun n d => x1 (ix2 n d))]
  · rw [View.ld_apply, View.ld_apply, er]
    unfold step
    refine if_congr Iff.rfl (Finset.sum_congr rfl fun d _ => ?_) rfl
    rw [View.ld_apply]
    refine congrArg (fun a : EReal => a * _) (congrArg x0 ?_)
    funext b
    apply Fin.ext
    rw [Rect.idx_unit_val]
    fin_cases b
    · rfl
    · exact Nat.zero_add _
  all_goals
    intro n d
    rw [View.ld_apply]
    refine congrArg x1 ?_
    funext b
    apply Fin.ext
    rw [Rect.idx_unit_val]
    fin_cases b
    · first | rfl | exact Nat.zero_add _
    · exact Nat.zero_add _

/-- Those tokens' part of the step, by the indices. -/
theorem rows_of (j : ℕ) (hj : j < 16) (o : ℕ) (ho : o + 256 ≤ 2048) (ih) (ie) (z : S256x128.Idx) (y : S2048x128.Idx) (h0 : (y 0).val = o + (z 0).val)
    (h1 : (y 1).val = (z 1).val) : rows x0 x1 x2 xo (BitVec.ofNat 32 j) o ih ie z = step j x0 x1 x2 xo y := by
  idx_vars z
  rw [rows_apply x0 x1 x2 xo j hj o ho]
  refine congrArg (step j x0 x1 x2 xo) ?_
  funext b
  apply Fin.ext
  fin_cases b
  · exact h0.symm
  · exact h1.symm

/-- The point's eight stores, the newest first. -/
def tiles (w : BitVec 32) : List (View.Piece (Elt Ideal) S2048x128 .f32) :=
    [⟨Rect.unit (s := S2048x128) ![1792, 0] S256x128.size inb_S2048x128_S256x128_1792_0, rows x0 x1 x2 xo w 1792 inb_S2048x2048_S256x2048_1792_0 inb_S2048x128_S256x128_1792_0⟩,
     ⟨Rect.unit (s := S2048x128) ![1536, 0] S256x128.size inb_S2048x128_S256x128_1536_0, rows x0 x1 x2 xo w 1536 inb_S2048x2048_S256x2048_1536_0 inb_S2048x128_S256x128_1536_0⟩,
     ⟨Rect.unit (s := S2048x128) ![1280, 0] S256x128.size inb_S2048x128_S256x128_1280_0, rows x0 x1 x2 xo w 1280 inb_S2048x2048_S256x2048_1280_0 inb_S2048x128_S256x128_1280_0⟩,
     ⟨Rect.unit (s := S2048x128) ![1024, 0] S256x128.size inb_S2048x128_S256x128_1024_0, rows x0 x1 x2 xo w 1024 inb_S2048x2048_S256x2048_1024_0 inb_S2048x128_S256x128_1024_0⟩,
     ⟨Rect.unit (s := S2048x128) ![768, 0] S256x128.size inb_S2048x128_S256x128_768_0, rows x0 x1 x2 xo w 768 inb_S2048x2048_S256x2048_768_0 inb_S2048x128_S256x128_768_0⟩,
     ⟨Rect.unit (s := S2048x128) ![512, 0] S256x128.size inb_S2048x128_S256x128_512_0, rows x0 x1 x2 xo w 512 inb_S2048x2048_S256x2048_512_0 inb_S2048x128_S256x128_512_0⟩,
     ⟨Rect.unit (s := S2048x128) ![256, 0] S256x128.size inb_S2048x128_S256x128_256_0, rows x0 x1 x2 xo w 256 inb_S2048x2048_S256x2048_256_0 inb_S2048x128_S256x128_256_0⟩,
     ⟨Rect.unit (s := S2048x128) ![0, 0] S256x128.size inb_S2048x128_S256x128_0_0, rows x0 x1 x2 xo w 0 inb_S2048x2048_S256x2048_0_0 inb_S2048x128_S256x128_0_0⟩]

/-- A store's rows are the step's, where the store puts them. -/
theorem rows_emb (j : ℕ) (hj : j < 16) (o : ℕ) (ho : o + 256 ≤ 2048) (ih) (ie) (z : S256x128.Idx) :
    rows x0 x1 x2 xo (BitVec.ofNat 32 j) o ih ie z = step j x0 x1 x2 xo ((Rect.unit (s := S2048x128) ![o, 0] S256x128.size ie).emb z) := by
  refine rows_of x0 x1 x2 xo j hj o ho ih ie z _ ?_ ?_
  · show ((Rect.unit (s := S2048x128) ![o, 0] S256x128.size ie).idx z 0).val = _
    rw [Rect.idx_unit_val]
    rfl
  · show ((Rect.unit (s := S2048x128) ![o, 0] S256x128.size ie).idx z 1).val = _
    rw [Rect.idx_unit_val]
    exact Nat.zero_add _

/-- The eight stores leave the step, whatever stood before. -/
theorem canon_tiles_append (j : ℕ) (hj : j < 16) (L' : List (View.Piece (Elt Ideal) S2048x128 .f32)) :
    View.canon (tiles x0 x1 x2 xo (BitVec.ofNat 32 j) ++ L') = step j x0 x1 x2 xo := by
  funext y
  refine View.canon_append_of_piecesOf (step j x0 x1 x2 xo) L' _ ?_ y (View.cover_of_tiledL (tiles x0 x1 x2 xo (BitVec.ofNat 32 j)) S256x128.size (by sl_kernel_rfl) y)
  exact ⟨fun z => rows_emb x0 x1 x2 xo j hj 1792 (by decide) inb_S2048x2048_S256x2048_1792_0 inb_S2048x128_S256x128_1792_0 z,
    fun z => rows_emb x0 x1 x2 xo j hj 1536 (by decide) inb_S2048x2048_S256x2048_1536_0 inb_S2048x128_S256x128_1536_0 z,
    fun z => rows_emb x0 x1 x2 xo j hj 1280 (by decide) inb_S2048x2048_S256x2048_1280_0 inb_S2048x128_S256x128_1280_0 z,
    fun z => rows_emb x0 x1 x2 xo j hj 1024 (by decide) inb_S2048x2048_S256x2048_1024_0 inb_S2048x128_S256x128_1024_0 z,
    fun z => rows_emb x0 x1 x2 xo j hj 768 (by decide) inb_S2048x2048_S256x2048_768_0 inb_S2048x128_S256x128_768_0 z,
    fun z => rows_emb x0 x1 x2 xo j hj 512 (by decide) inb_S2048x2048_S256x2048_512_0 inb_S2048x128_S256x128_512_0 z,
    fun z => rows_emb x0 x1 x2 xo j hj 256 (by decide) inb_S2048x2048_S256x2048_256_0 inb_S2048x128_S256x128_256_0 z,
    fun z => rows_emb x0 x1 x2 xo j hj 0 (by decide) inb_S2048x2048_S256x2048_0_0 inb_S2048x128_S256x128_0_0 z, trivial⟩

/-- What a later point leaves. -/
theorem stored_B (j : ℕ) (hj : j < 16) (hi : (i 1).val = j) (hc0 : ¬ cond0_0 i) :
    out0_B_3 c i arg2 harg2 arg3 harg3 arg4 harg4 arg5 harg5 hc0 x0 x1 x2 xo = step j x0 x1 x2 xo := by
  frame_out
  rw [hi]
  refine Eq.trans (b := View.canon (tiles x0 x1 x2 xo (BitVec.ofNat 32 j) ++ [])) ?_ (canon_tiles_append x0 x1 x2 xo j hj [])
  rfl

/-- What the first point of a row block leaves. -/
theorem stored_A (j : ℕ) (hj : j < 16) (hi : (i 1).val = j) (hc0 : cond0_0 i) :
    out0_A_3 c i arg2 harg2 arg3 harg3 arg4 harg4 arg5 harg5 hc0 x0 x1 x2 = step j x0 x1 x2 (k0_pay2 (F := Ideal)) := by
  frame_out
  rw [hi]
  simp (config := { decide := true }) only [↓View.readCov_skip, ↓View.readCov_fill]
  refine Eq.trans (b := View.canon (tiles x0 x1 x2 (k0_pay2 (F := Ideal)) (BitVec.ofNat 32 j)
    ++ [⟨Rect.unit (s := S2048x128) ![0, 0] S2048x128.size inb_S2048x128_S2048x128_0_0, k0_pay2 (F := Ideal)⟩])) ?_ (canon_tiles_append x0 x1 x2 _ j hj _)
  rfl

end Stores

end Cert.UpIdeal.Rows

end
-- ==== Proof.UpResult.lean ====
/- The picks' activations kernel's result array over the extended reals: what the output block holds after each point of a row block. -/
module

public import proofs.«01_k».proof.Proof.UpRows
public import proofs.«01_k».proof.Proof.Layer
public import proofs.«01_k».proof.Proof.Gen.UpIdeal.Value
public import Idealize.ShloMosaic.Lib.Pipeline.ValueKit
public import Idealize.ShloMosaic.Lib.Claim

@[expose] public section

set_option maxRecDepth 16384

noncomputable section

namespace Cert.UpIdeal.Rows

open Cert.UpIdeal Cert.UpIdeal.Gen
open Idealize.ShloMosaic Idealize.ShloMosaic.Pointwise Idealize.ShloMosaic.TcCoe Idealize.ShloMosaic.Tactic
open Idealize.SL.Sem

variable (m : (ℓ : Loc nD τ sig) → Buf (Elt Ideal) ℓ) (ρ : Dev nD → PrngReg)

/-- What the result array is shown to hold. -/
abbrev result (c : Dev nD) : Buf (Elt Ideal) ((c : Thread nD τ).loc main_v1) :=
  Layer.picksArray (m ((c : Thread nD τ).loc main_arg0)) (m ((c : Thread nD τ).loc main_arg1)) (m ((c : Thread nD τ).loc main_arg2))

/-- Where each point stands: row block `t / 16`, experts' block `t % 16`. -/
theorem idx : ∀ t : Fin cfg0.N, win0_0.index t = ![t.val / 16, 0] ∧ win0_1.index t = ![t.val % 16, 0]
    ∧ win0_2.index t = ![t.val / 16, 0] ∧ win0_3.index t = ![t.val / 16, 0] :=
  (by decide +kernel : ∀ t : Fin grid0.N, _)

/-- The experts' block's coordinate. -/
theorem coord : ∀ t : Fin cfg0.N, (grid0.coords t 1).val = t.val % 16 :=
  (by decide +kernel : ∀ t : Fin grid0.N, _)

section Reads

variable (c : Dev nD) (t : Fin cfg0.N)

/-- An entry of the tokens' block. -/
theorem h_read (r : Fin 2048) (T : Fin 8192) (hT : T.val = t.val / 16 * 2048 + r.val) (d : Fin 2048) :
    iblk m c 0 t (ix2 r d) = (m ((c : Thread nD τ).loc main_arg0) : FVec Ideal S8192x2048 .bf16) (ix2 T d) := by
  blk_point [iblk, V, idx t]

/-- An entry of the experts' block. -/
theorem u_read (k : Fin 1024) (n : Fin 16384) (hn : n.val = t.val % 16 * 1024 + k.val) (d : Fin 2048) :
    iblk m c 1 t (ix2 k d) = (m ((c : Thread nD τ).loc main_arg1) : FVec Ideal S1x16384x2048 .f32) (ix3 0 n d) := by
  blk_point [iblk, V, idx t]

/-- A pick of the block. -/
theorem e_read (r : Fin 2048) (T : Fin 8192) (hT : T.val = t.val / 16 * 2048 + r.val) (p : Fin 128) :
    iblk m c 2 t (ix2 r p) = (m ((c : Thread nD τ).loc main_arg2) : IVec S8192x128 32) (ix2 T p) := by
  blk_point [iblk, V, idx t]

end Reads

/-- The tokens, the experts and the picks. -/
abbrev hOf (c : Dev nD) : S8192x2048.Idx → EReal := m ((c : Thread nD τ).loc main_arg0)
abbrev uOf (c : Dev nD) : S1x16384x2048.Idx → EReal := m ((c : Thread nD τ).loc main_arg1)
abbrev eOf (c : Dev nD) : S8192x128.Idx → BitVec 32 := m ((c : Thread nD τ).loc main_arg2)

/-- What the output holds after the experts' blocks through `j`: the picks among them have their product, the others a zero. -/
def held (h : S8192x2048.Idx → EReal) (u : S1x16384x2048.Idx → EReal) (e : S8192x128.Idx → BitVec 32) (j : ℕ) (T : Fin 8192) (p : Fin 128) : EReal :=
  if (e (ix2 T p)).toNat / 1024 ≤ j then Layer.activation h u e T p else 0

/-- One point's step, at the arrays. -/
theorem step_read (c : Dev nD) (t : Fin cfg0.N) (r : Fin 2048) (T : Fin 8192) (hT : T.val = t.val / 16 * 2048 + r.val) (p : Fin 128)
    (o : S2048x128.Idx → EReal) (x0 : S2048x2048.Idx → EReal) (x1 : S1024x2048.Idx → EReal) (x2 : S2048x128.Idx → BitVec 32)
    (e0 : x0 = iblk m c 0 t) (e1 : x1 = iblk m c 1 t) (e2 : x2 = iblk m c 2 t) :
    step (t.val % 16) x0 x1 x2 o (ix2 r p)
      = if (eOf m c (ix2 T p)).toNat / 1024 = t.val % 16 then Layer.activation (hOf m c) (uOf m c) (eOf m c) T p else o (ix2 r p) := by
  have he : x2 (ix2 r p) = eOf m c (ix2 T p) := by
    rw [e2]
    exact e_read m c t r T hT p
  have hh : ∀ d : Fin 2048, x0 (ix2 r d) = hOf m c (ix2 T d) := fun d => by
    rw [e0]
    exact h_read m c t r T hT d
  have hu : ∀ (k : Fin 1024) (n : Fin 16384), n.val = t.val % 16 * 1024 + k.val → ∀ d : Fin 2048, x1 (ix2 k d) = uOf m c (ix3 0 n d) := fun k n hn d => by
    rw [e1]
    exact u_read m c t k n hn d
  unfold step Layer.activation
  show (if (x2 (ix2 r p)).toNat / 1024 = t.val % 16 then ∑ d : Fin 2048, x0 (ix2 r d) * x1 (ix2 ⟨(x2 (ix2 r p)).toNat % 1024, Nat.mod_lt _ (by decide)⟩ d)
    else o (ix2 r p)) = _
  by_cases hj : (eOf m c (ix2 T p)).toNat / 1024 = t.val % 16
  · rw [if_pos (by rw [he]; exact hj), if_pos hj]
    refine Finset.sum_congr (M := EReal) rfl fun d _ => ?_
    rw [hh d, hu _ ⟨(eOf m c (ix2 T p)).toNat % 16384, Nat.mod_lt _ (by decide)⟩ ?_ d]
    show (eOf m c (ix2 T p)).toNat % 16384 = t.val % 16 * 1024 + (x2 (ix2 r p)).toNat % 1024
    rw [he]
    omega
  · rw [if_neg (by rw [he]; exact hj), if_neg hj]

/-- The first point of a row block. -/
theorem held_first (c : Dev nD) (t : Fin cfg0.N) (h0 : t.val % 16 = 0) (r : Fin 2048) (T : Fin 8192) (hT : T.val = t.val / 16 * 2048 + r.val)
    (p : Fin 128) : step (t.val % 16) (iblk m c 0 t) (iblk m c 1 t) (iblk m c 2 t) (k0_pay2 (F := Ideal)) (ix2 r p)
      = held (hOf m c) (uOf m c) (eOf m c) (t.val % 16) T p := by
  refine (step_read m c t r T hT p _ _ _ _ rfl rfl rfl).trans ?_
  have hz : (k0_pay2 (F := Ideal)) (ix2 r p) = (0 : EReal) := by
    pointwise [k0_pay2]
  rw [hz, h0]
  unfold held
  exact if_congr Nat.le_zero.symm rfl rfl

/-- A later point. -/
theorem held_next (c : Dev nD) (t : Fin cfg0.N) (h0 : ¬t.val % 16 = 0) (o : S2048x128.Idx → EReal) (r : Fin 2048) (T : Fin 8192)
    (hT : T.val = t.val / 16 * 2048 + r.val) (p : Fin 128) (ho : o (ix2 r p) = held (hOf m c) (uOf m c) (eOf m c) (t.val % 16 - 1) T p) :
    step (t.val % 16) (iblk m c 0 t) (iblk m c 1 t) (iblk m c 2 t) o (ix2 r p) = held (hOf m c) (uOf m c) (eOf m c) (t.val % 16) T p := by
  refine (step_read m c t r T hT p _ _ _ _ rfl rfl rfl).trans ?_
  rw [ho]
  unfold held
  by_cases h1 : (eOf m c (ix2 T p)).toNat / 1024 = t.val % 16
  · rw [if_pos h1, if_pos (by omega)]
  · rw [if_neg h1]
    exact if_congr (by omega) rfl rfl

/-- What the output block holds after each point. -/
theorem acc (c : Dev nD) : ∀ (n : ℕ) (h : n < cfg0.N) (r : Fin 2048) (T : Fin 8192) (_ : T.val = n / 16 * 2048 + r.val) (p : Fin 128),
    (outsAt0 m c n h : FVec Ideal S2048x128 .f32) (ix2 r p) = held (hOf m c) (uOf m c) (eOf m c) (n % 16) T p
  | 0, h, r, T, hT, p => by
    rw [outsAt0_A m c ⟨0, h⟩ rfl]
    rw [stored_A (j := 0 % 16) (hj := by decide) (hi := coord ⟨0, h⟩)]
    exact held_first m c ⟨0, h⟩ rfl r T hT p
  | n + 1, h, r, T, hT, p => by
    by_cases h0 : (n + 1) % 16 = 0
    · rw [outsAt0_A m c ⟨n + 1, h⟩ h0]
      rw [stored_A (j := (n + 1) % 16) (hj := Nat.mod_lt _ (by decide)) (hi := coord ⟨n + 1, h⟩)]
      exact held_first m c ⟨n + 1, h⟩ h0 r T hT p
    · rw [outsAt0_B m c ⟨n + 1, h⟩ h0]
      rw [stored_B (j := (n + 1) % 16) (hj := Nat.mod_lt _ (by decide)) (hi := coord ⟨n + 1, h⟩)]
      refine held_next m c ⟨n + 1, h⟩ h0 _ r T hT p ?_
      refine (acc c n (Nat.lt_of_succ_lt h) r T (by omega) p).trans ?_
      exact congrArg (fun j => held (hOf m c) (uOf m c) (eOf m c) j T p) (by show n % 16 = (n + 1) % 16 - 1; omega)

/-- The result array after the run. -/
theorem final (c : Dev nD) : (dats m 0 c).arrAt 3 (cfgs 0).N = result m c := by
  refine (dats m 0 c).arrAt_eq_of_covers 3 _ (by decide +kernel) fun t hf y => ?_
  have h1 : t.val % 16 = 15 := (flush0_3 t).mp hf
  blk_simp
  rw [after0_3]
  have hy : (y 0 : ℕ) < 2048 := (y 0).isLt
  have ht : (t : ℕ) < 64 := t.isLt
  obtain ⟨T, hT⟩ : ∃ T : Fin 8192, (T : ℕ) = (t : ℕ) / 16 * 2048 + (y 0 : ℕ) := ⟨⟨_, by omega⟩, rfl⟩
  have e : (win0_3.blk t).view.emb y = (ix2 T (y 1) : S8192x128.Idx) := by
    funext a
    apply Fin.ext
    fin_cases a
    · blk_simp [idx t]
      exact hT.symm
    · blk_simp [idx t]
      rfl
  rw [e]
  change S2048x128.Idx at y
  idx_vars y
  refine (acc m c t.val t.isLt y0 T hT y1).trans ?_
  rw [h1]
  show held _ _ _ 15 T y1 = Layer.picked _ _ _ T y1
  unfold held Layer.picked
  have key : ∀ w : ℕ, w / 1024 ≤ 15 ↔ w < 16384 := fun w => by omega
  exact if_congr (key _) rfl rfl

/-- The run, with the result array at the picks' activations and the arguments unchanged. -/
theorem run_result : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks (F := Ideal) m ρ)

end Cert.UpIdeal.Rows

end
-- ==== Proof.UpSums.lean ====
/- The picks' activations' host reference over the extended reals: its result array, element by element, for picks that name experts. -/
module

public import proofs.«01_k».proof.Proof.Gen.UpRefIdeal.Run
public import proofs.«01_k».proof.Proof.Layer
public import Idealize.ShloMosaic.Lib.Pointwise
public import Idealize.ShloMosaic.Lib.ValueIdx
public import Idealize.ShloMosaic.Lib.StableHlo.Predicate
public import Idealize.ShloMosaic.PureOps.Ideal.Laws
public import Idealize.ShloMosaic.Lib.IdealHost

@[expose] public section

set_option maxRecDepth 16384

noncomputable section

namespace Cert.UpRefIdeal.Sums

open Cert.UpRefIdeal Cert.UpRefIdeal.Gen
open Idealize.ShloMosaic Idealize.ShloMosaic.Pointwise Idealize.ShloMosaic.TcCoe Idealize.ShloMosaic.Tactic
open Idealize.SL.Sem

variable (m : (ℓ : Loc nD τ sig) → Buf (Elt Ideal) ℓ) (ρ : Dev nD → PrngReg)

/-- The gather's dimension numbers: rows of the experts by a column of starts. -/
abbrev rowsOf := gather_S16384x2048_S8192x128x1_S8192x128x2048_2_0_n_n_0_2_12048

/-- The rows a column of starts names, each start clamped into the experts. -/
theorem gather_rows (X : FVec Ideal S16384x2048 .f32) (I : IVec S8192x128x1 32) (t : Fin 8192) (p : Fin 128) (d : Fin 2048) :
    (Host.gather rowsOf X I : FVec Ideal S8192x128x2048 .f32) (ix3 t p d)
      = X (ix2 ⟨min (I (ix3 t p 0)).toInt.toNat 16383, by omega⟩ d) := by
  unfold Host.gather
  refine congrArg X ?_
  funext a
  apply Fin.ext
  fin_cases a
  · have hb : (0 : Fin 2) ∉ rowsOf.operandBatchingDims := by decide
    have hk : (0 : Fin 2) ∉ rowsOf.sKept := by decide
    have hm : (0 : Fin 2) ∈ rowsOf.startIndexMap := by decide
    show rowsOf.start (ix3 t p d) I 0 + rowsOf.batchCoord (ix3 t p d) 0 + rowsOf.offCoord (ix3 t p d) 0 = min (I (ix3 t p 0)).toInt.toNat 16383
    rw [GatherDims.batchCoord_eq_zero _ _ _ hb, GatherDims.offCoord_eq_zero _ _ _ hk]
    unfold GatherDims.start
    rw [dif_pos hm]
    show min (I _).toInt.toNat 16383 = min (I (ix3 t p 0)).toInt.toNat 16383
    refine congrArg (fun i => min (I i).toInt.toNat 16383) ?_
    funext b
    apply Fin.ext
    fin_cases b <;> rfl
  · have hb : (1 : Fin 2) ∉ rowsOf.operandBatchingDims := by decide
    have hm : (1 : Fin 2) ∉ rowsOf.startIndexMap := by decide
    show rowsOf.start (ix3 t p d) I 1 + rowsOf.batchCoord (ix3 t p d) 1 + rowsOf.offCoord (ix3 t p d) 1 = d.val
    rw [GatherDims.batchCoord_eq_zero _ _ _ hb]
    unfold GatherDims.start
    rw [dif_neg hm]
    show 0 + 0 + d.val = d.val
    omega

/-- The starts: a pick that names an expert is its own. -/
theorem start_apply (e : IVec S8192x128 32) (t : Fin 8192) (p : Fin 128) (he : (e (ix2 t p)).toNat < 16384) :
    (broadcastInDim S8192x128x1 ![0, 1] bcast_S8192x128_S8192x128x1_0_1 (select (cmpi .slt e (broadcastInDim S8192x128 ![] bcast_S_S8192x128 (constantI S_ 32 0#32))) (addi e (broadcastInDim S8192x128 ![] bcast_S_S8192x128 (constantI S_ 32 16384#32))) e) : IVec S8192x128x1 32) (ix3 t p 0)
      = e (ix2 t p) := by
  pointwise
  have hs : (e (ix2 t p)).slt 0#32 = false := by
    rw [BitVec.slt, BitVec.toInt_eq_toNat_cond]
    simp
    omega
  simp [Scalar.select, IntOp.cmpi, hs]

/-- The reference's activation of a pick that names an expert. -/
theorem activation_apply (h : FVec Ideal S8192x2048 .bf16) (u : FVec Ideal S1x16384x2048 .f32) (e : IVec S8192x128 32) (I : IVec S8192x128x1 32)
    (t : Fin 8192) (p : Fin 128) (hI : I (ix3 t p 0) = e (ix2 t p)) (he : (e (ix2 t p)).toNat < 16384) :
    (Host.dotGeneral dot_S8192x128x2048_S8192x2048_S8192x128_2_1_1_n_0_0 none (Host.gather rowsOf (shapeCast _ u shapeCasts_S1x16384x2048_S16384x2048) I)
      (extf .f32 h bitsLt_bf16_f32) : FVec Ideal S8192x128 .f32) (ix2 t p) = Layer.picked h u e t p := by
  have hg : ∀ d : Fin 2048, (Host.gather rowsOf (shapeCast _ u shapeCasts_S1x16384x2048_S16384x2048) I : FVec Ideal S8192x128x2048 .f32) (ix3 t p d)
      = u (ix3 0 ⟨(e (ix2 t p)).toNat % 16384, Nat.mod_lt _ (by decide)⟩ d) := fun d => by
    have hn : (⟨min (I (ix3 t p 0)).toInt.toNat 16383, by omega⟩ : Fin 16384) = ⟨(e (ix2 t p)).toNat % 16384, Nat.mod_lt _ (by decide)⟩ := by
      apply Fin.ext
      show min (I (ix3 t p 0)).toInt.toNat 16383 = (e (ix2 t p)).toNat % 16384
      rw [hI, BitVec.toInt_eq_toNat_cond]
      split <;> omega
    rw [gather_rows, hn]
    pointwise
  generalize (Host.gather rowsOf (shapeCast _ u shapeCasts_S1x16384x2048_S16384x2048) I : FVec Ideal S8192x128x2048 .f32) = G at hg
  unfold Layer.picked Layer.activation
  rw [if_pos he]
  have hd : (Host.dotGeneral dot_S8192x128x2048_S8192x2048_S8192x128_2_1_1_n_0_0 none G (extf .f32 h bitsLt_bf16_f32) : FVec Ideal S8192x128 .f32) (ix2 t p)
      = ∑ d : Fin 2048, G (ix3 t p d) * h (ix2 t d) := by
    pointwise
  rw [hd]
  refine Finset.sum_congr (M := EReal) rfl fun d _ => ?_
  rw [hg d]
  exact mul_comm _ _

/-- What the result array is shown to hold. -/
abbrev result (c : Dev nD) : Buf (Elt Ideal) ((c : Thread nD τ).loc main_v9) :=
  Layer.picksArray (m ((c : Thread nD τ).loc main_arg0)) (m ((c : Thread nD τ).loc main_arg1)) (m ((c : Thread nD τ).loc main_arg2))

/-- The run, with the result array at the picks' activations and the arguments unchanged. -/
theorem run_result (he : ∀ (c : Dev nD) (t : Fin 8192) (p : Fin 128),
      ((m ((c : Thread nD τ).loc main_arg2) : IVec S8192x128 32) (ix2 t p)).toNat < 16384) :
    θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run (F := Ideal) m ρ)
  funext i
  change S8192x128.Idx at i
  idx_vars i
  exact activation_apply _ _ _ _ i0 i1 (start_apply _ i0 i1 (he c i0 i1)) (he c i0 i1)

end Cert.UpRefIdeal.Sums

end
-- ==== Proof.UpClaims.lean ====
/- The claims about the picks' activations. -/
module

public import proofs.«01_k».proof.Defs
public import proofs.«01_k».proof.Proof.Gen.Up
public import proofs.«01_k».proof.Proof.Gen.Pre_picks
public import proofs.«01_k».proof.Proof.UpResult
public import proofs.«01_k».proof.Proof.UpSums
public import Idealize.ShloMosaic.Lib.Quiescent
public import Idealize.ShloMosaic.Lib.ReduceAll
public import Idealize.ShloMosaic.Lib.Claim

@[expose] public section

noncomputable section

namespace Cert.UpClaims

open Idealize.ShloMosaic Idealize.ShloMosaic.Pointwise Idealize.ShloMosaic.TcCoe Idealize.ShloMosaic.Tactic Idealize.SL.Sem

/-- The kernel's frame: its text is the idealization's own, whose frame holds over any floats. -/
theorem frame_kernel : Cert.quiescent_Up := fun m ρ _ => by
  have h := Cert.UpIdeal.Gen.frame (F := Bits) m ρ
  exact cast (by sl_kernel_rfl) h

/-- The idealization's frame. -/
theorem frame_ideal : Cert.quiescent_UpIdeal := fun m ρ _ => Cert.UpIdeal.Gen.frame m ρ

/-- The same for picks that name experts. -/
theorem frame_ideal_picks : Cert.quiescent_UpIdeal_pre_picks := fun m ρ _ => Cert.UpIdeal.Gen.frame m ρ

/-- The host reference's frame. -/
theorem frame_ref : Cert.quiescent_UpRefIdeal := fun m ρ _ =>
  (θ_run Cert.UpRefIdeal.defs _ _).mono (fun _ h => ⟨fun c => (h c).2, sem_eq_zero_of_no_sems rfl _⟩) (Cert.UpRefIdeal.Value.run m ρ)

/-- The same for picks that name experts. -/
theorem frame_ref_picks : Cert.quiescent_UpRefIdeal_pre_picks := fun m ρ _ => frame_ref m ρ trivial

/-- A word at least zero and less than 16384, read signed, is less than 16384. -/
theorem word_lt (w : BitVec 32) (h0 : IntOp.cmpi .sge w 0#32 = 1#1) (h1 : IntOp.cmpi .slt w 16384#32 = 1#1) : w.toNat < 16384 := by
  have g0 : (0#32).sle w = true := by
    simp only [IntOp.cmpi] at h0
    cases h : (0#32).sle w
    · rw [h] at h0
      exact absurd h0 (by decide)
    · rfl
  have g1 : w.slt 16384#32 = true := by
    simp only [IntOp.cmpi] at h1
    cases h : w.slt 16384#32
    · rw [h] at h1
      exact absurd h1 (by decide)
    · rfl
  rw [BitVec.sle_iff_toInt_le] at g0
  rw [BitVec.slt_iff_toInt_lt] at g1
  have e0 : (0#32).toInt = 0 := by decide
  have e1 : (16384#32).toInt = 16384 := by decide
  have ht := BitVec.toInt_eq_toNat_cond w
  have hw := w.isLt
  split at ht <;> omega

/-- The precondition, read: every pick names an expert. -/
theorem picks_lt (m : (ℓ : Loc Cert.UpIdeal.nD Cert.UpIdeal.τ Cert.UpIdeal.sig) → Buf (Elt Ideal) ℓ) (h : Cert.Pre_UpIdeal_picks m)
    (c : Dev Cert.UpIdeal.nD) (t : Fin 8192) (p : Fin 128) :
    ((m ((c : Thread Cert.UpIdeal.nD Cert.UpIdeal.τ).loc Cert.UpIdeal.main_arg2) : IVec Cert.UpIdeal.S8192x128 32) (ix2 t p)).toNat < 16384 := by
  haveI : Subsingleton Cert.Pre_picks.S_.Idx := ⟨fun a b => funext fun i => i.elim0⟩
  have hc := congrFun (h c) (fun i => i.elim0)
  have hp := Host.reduce_andi_all _ _ _ _ _ hc (ix2 t p)
  obtain ⟨h0, h1⟩ := IntOp.andi_eq_one.1 hp
  change IntOp.cmpi .sge (m ((c : Thread Cert.UpIdeal.nD Cert.UpIdeal.τ).loc Cert.UpIdeal.main_arg2) (ix2 t p)) 0#32 = 1#1 at h0
  change IntOp.cmpi .slt (m ((c : Thread Cert.UpIdeal.nD Cert.UpIdeal.τ).loc Cert.UpIdeal.main_arg2) (ix2 t p)) 16384#32 = 1#1 at h1
  exact word_lt _ h0 h1

/-- Over the extended reals the kernel and the host reference compute the same activations. -/
theorem same_activations : Cert.algebraic_UpIdeal_UpRefIdeal_pre_picks := fun m ρ m' ρ' hpre hagree =>
  ⟨fun c => Cert.UpIdeal.Rows.result m c, Cert.UpIdeal.Rows.run_result m ρ,
    (θ_run Cert.UpRefIdeal.defs _ _).mono (fun _ h c => ⟨(h c).1.trans (by
      unfold Cert.UpIdeal.Rows.result Cert.UpRefIdeal.Sums.result
      rw [(hagree c).1, (hagree c).2.1, (hagree c).2.2]), (h c).2⟩) (Cert.UpRefIdeal.Sums.run_result m' ρ' fun c t p => by
        rw [(hagree c).2.2]
        exact picks_lt m hpre c t p)⟩

end Cert.UpClaims

end
-- ==== Proof.lean ====
/- The certificate's claims, assembled. -/
module

public import proofs.«01_k».proof.Defs
public import proofs.«01_k».proof.Proof.Gen.Kernel
public import proofs.«01_k».proof.Proof.Gen.Tokens
public import proofs.«01_k».proof.Proof.Gen.TokensIdeal
public import proofs.«01_k».proof.Proof.Gen.ExpertsIdeal
public import proofs.«01_k».proof.Proof.Gen.ExpertsIdeal.Run
public import proofs.«01_k».proof.Proof.Gen.InProj
public import proofs.«01_k».proof.Proof.Gen.OutProj
public import proofs.«01_k».proof.Proof.Gen.Down
public import proofs.«01_k».proof.Proof.Gen.InRefIdeal
public import proofs.«01_k».proof.Proof.Gen.OutRefIdeal
public import proofs.«01_k».proof.Proof.Gen.DownRefIdeal
public import proofs.«01_k».proof.Proof.Gen.InProjIdeal
public import proofs.«01_k».proof.Proof.Gen.OutProjIdeal
public import proofs.«01_k».proof.Proof.Gen.DownIdeal
public import proofs.«01_k».proof.Proof.Gen.InRefIdeal.Run
public import proofs.«01_k».proof.Proof.Gen.OutRefIdeal.Run
public import proofs.«01_k».proof.Proof.Gen.DownRefIdeal.Run
public import proofs.«01_k».proof.Proof.Gen.InProjIdeal.Value
public import proofs.«01_k».proof.Proof.Gen.OutProjIdeal.Value
public import proofs.«01_k».proof.Proof.Gen.DownIdeal.Value
public import proofs.«01_k».proof.Proof.Gen.Up
public import proofs.«01_k».proof.Proof.Gen.UpIdeal.Value
public import proofs.«01_k».proof.Proof.Gen.UpRefIdeal.Run
public import proofs.«01_k».proof.Proof.Gen.Pre_picks
public import proofs.«01_k».proof.Proof.CoefClaims
public import proofs.«01_k».proof.Proof.InClaims
public import proofs.«01_k».proof.Proof.OutClaims
public import proofs.«01_k».proof.Proof.DownClaims
public import proofs.«01_k».proof.Proof.UpClaims

@[expose] public section

noncomputable section

namespace Cert.Proof

open Idealize.ShloMosaic Idealize.SL.Sem

/-- Everything that is claimed. -/
theorem claim : Cert.Claim :=
  ⟨Cert.Kernel.Gen.facts, Cert.Tokens.Gen.facts, Cert.TokensIdeal.Gen.facts, Cert.ExpertsIdeal.Gen.facts,
    Cert.InProj.Gen.facts, Cert.InProjIdeal.Gen.facts, Cert.InRefIdeal.Gen.facts, Cert.OutProj.Gen.facts,
    Cert.OutProjIdeal.Gen.facts, Cert.OutRefIdeal.Gen.facts, Cert.Down.Gen.facts, Cert.DownIdeal.Gen.facts,
    Cert.DownRefIdeal.Gen.facts, Cert.Up.Gen.facts, Cert.UpIdeal.Gen.facts, Cert.UpRefIdeal.Gen.facts, Cert.Pre_picks.Gen.facts,
    CoefClaims.frame_kernel, CoefClaims.frame_tokens, CoefClaims.frame_tokens_ideal, CoefClaims.frame_experts_ideal,
    InClaims.frame_kernel, InClaims.frame_ideal, InClaims.frame_ref,
    OutClaims.frame_kernel, OutClaims.frame_ideal, OutClaims.frame_ref,
    DownClaims.frame_kernel, DownClaims.frame_ideal, DownClaims.frame_ref,
    UpClaims.frame_kernel, UpClaims.frame_ideal, UpClaims.frame_ideal_picks, UpClaims.frame_ref, UpClaims.frame_ref_picks,
    CoefClaims.same_words, trivial, CoefClaims.same_sums, trivial, InClaims.same_projection, trivial, OutClaims.same_results,
    trivial, DownClaims.same_result, trivial, UpClaims.same_activations⟩

end Cert.Proof

end
